-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x32 : Shape := ⟨3, ![4, 256, 32]⟩
abbrev S8193x32 : Shape := ⟨2, ![8193, 32]⟩
abbrev S_ : Shape := ⟨0, ![]⟩

class Facts : Prop where
  bcast_S_S4x256x32 : S_.BroadcastsInDim S4x256x32 (![] : Fin 0 → Fin S4x256x32.rank)
  reducesTo_S4x256x32_S_d0_1_2 : S4x256x32.ReducesTo [0, 1, 2] S_
  h_S_ : 0 < S_.numel
  bcast_S_S8193x32 : S_.BroadcastsInDim S8193x32 (![] : Fin 0 → Fin S8193x32.rank)
  reducesTo_S8193x32_S_d0_1 : S8193x32.ReducesTo [0, 1] S_

variable [Facts]

def fn {F : FTy → Type} [FloatOps F] (main_arg0 : FVec F S4x256x32 .f32) (main_arg1 : FVec F S8193x32 .f32) : IVec S_ 1 :=
  let main_cst : FVec F S_ .f32 := constant S_ .f32 0x7F800000#32
  let main_v0 : FVec F S4x256x32 .f32 := broadcastInDim S4x256x32 ![] bcast_S_S4x256x32 main_cst
  let main_v1 : IVec S4x256x32 1 := cmpf .olt main_arg0 main_v0
  let main_cst_0 : FVec F S_ .f32 := constant S_ .f32 0x7F800000#32
  let main_v2 : FVec F S_ .f32 := Host.negf main_cst_0
  let main_v3 : FVec F S4x256x32 .f32 := broadcastInDim S4x256x32 ![] bcast_S_S4x256x32 main_v2
  let main_v4 : IVec S4x256x32 1 := cmpf .ogt main_arg0 main_v3
  let main_v5 : IVec S4x256x32 1 := andi main_v1 main_v4
  let main_c : IVec S_ 1 := constantI S_ 1 1#1
  let main_v6 : IVec S_ 1 := (fun x v => Host.reduce IntOp.andi x v reducesTo_S4x256x32_S_d0_1_2 h_S_) main_v5 main_c
  let main_cst_1 : FVec F S_ .f32 := constant S_ .f32 0x7F800000#32
  let main_v7 : FVec F S8193x32 .f32 := broadcastInDim S8193x32 ![] bcast_S_S8193x32 main_cst_1
  let main_v8 : IVec S8193x32 1 := cmpf .olt main_arg1 main_v7
  let main_cst_2 : FVec F S_ .f32 := constant S_ .f32 0x7F800000#32
  let main_v9 : FVec F S_ .f32 := Host.negf main_cst_2
  let main_v10 : FVec F S8193x32 .f32 := broadcastInDim S8193x32 ![] bcast_S_S8193x32 main_v9
  let main_v11 : IVec S8193x32 1 := cmpf .ogt main_arg1 main_v10
  let main_v12 : IVec S8193x32 1 := andi main_v8 main_v11
  let main_c_3 : IVec S_ 1 := constantI S_ 1 1#1
  let main_v13 : IVec S_ 1 := (fun x v => Host.reduce IntOp.andi x v reducesTo_S8193x32_S_d0_1 h_S_) main_v12 main_c_3
  let main_v14 : IVec S_ 1 := andi main_v6 main_v13
  main_v14
-- ==== Kernel.lean ====
abbrev S4x256x32 : Shape := ⟨3, ![4, 256, 32]⟩
abbrev S8193x32 : Shape := ⟨2, ![8193, 32]⟩
abbrev S1024x32 : Shape := ⟨2, ![1024, 32]⟩
abbrev S_ : Shape := ⟨0, ![]⟩
abbrev S9216x32 : Shape := ⟨2, ![9216, 32]⟩
abbrev S32x9216 : Shape := ⟨2, ![32, 9216]⟩
abbrev S4x256 : Shape := ⟨2, ![4, 256]⟩
abbrev S1x1 : Shape := ⟨2, ![1, 1]⟩
abbrev S4x1 : Shape := ⟨2, ![4, 1]⟩
abbrev S256x4x384 : Shape := ⟨3, ![256, 4, 384]⟩
abbrev S16x16x4x384 : Shape := ⟨4, ![16, 16, 4, 384]⟩
abbrev S16x4x16 : Shape := ⟨3, ![16, 4, 16]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S1x32 : Shape := ⟨2, ![1, 32]⟩
abbrev S252x32 : Shape := ⟨2, ![252, 32]⟩
abbrev S256x32 : Shape := ⟨2, ![256, 32]⟩
abbrev S9216 : Shape := ⟨1, ![9216]⟩
abbrev S1x9216 : Shape := ⟨2, ![1, 9216]⟩
abbrev S256x9216 : Shape := ⟨2, ![256, 9216]⟩
abbrev S4x9216 : Shape := ⟨2, ![4, 9216]⟩
abbrev S4 : Shape := ⟨1, ![4]⟩
abbrev S384x32 : Shape := ⟨2, ![384, 32]⟩
abbrev S32x384 : Shape := ⟨2, ![32, 384]⟩
abbrev S384 : Shape := ⟨1, ![384]⟩
abbrev S1x384 : Shape := ⟨2, ![1, 384]⟩
abbrev S256x384 : Shape := ⟨2, ![256, 384]⟩
abbrev S256x1 : Shape := ⟨2, ![256, 1]⟩
abbrev S256x1x384 : Shape := ⟨3, ![256, 1, 384]⟩
abbrev S4x384 : Shape := ⟨2, ![4, 384]⟩
abbrev S1x4x384 : Shape := ⟨3, ![1, 4, 384]⟩
abbrev S1x16x4x384 : Shape := ⟨4, ![1, 16, 4, 384]⟩
abbrev S16x4x384 : Shape := ⟨3, ![16, 4, 384]⟩
abbrev S16x1x4x384 : Shape := ⟨4, ![16, 1, 4, 384]⟩
abbrev S1x4 : Shape := ⟨2, ![1, 4]⟩
abbrev S16x4 : Shape := ⟨2, ![16, 4]⟩
abbrev S16x4x1 : Shape := ⟨3, ![16, 4, 1]⟩
abbrev S4x16x16 : Shape := ⟨3, ![4, 16, 16]⟩
abbrev S1x4x256 : Shape := ⟨3, ![1, 4, 256]⟩
abbrev S1 : Shape := ⟨1, ![1]⟩
abbrev S1x1x1 : Shape := ⟨3, ![1, 1, 1]⟩
abbrev S1x256 : Shape := ⟨2, ![1, 256]⟩
abbrev S256 : Shape := ⟨1, ![256]⟩
abbrev S1024 : Shape := ⟨1, ![1024]⟩
abbrev S32x1152 : Shape := ⟨2, ![32, 1152]⟩
abbrev S1x1152 : Shape := ⟨2, ![1, 1152]⟩
abbrev S1024x1152 : Shape := ⟨2, ![1024, 1152]⟩
abbrev S1x1024x1 : Shape := ⟨3, ![1, 1024, 1]⟩

abbrev nBuf : Space → Nat
  | .hbm => 14
  | .vmem => 9
  | .smem => 3
  | _ => 0

abbrev bufTy : (tb : Table) → Fin (tcTables nBuf tb) → BufTy
  | .hbm, ⟨0, _⟩ => ⟨S4x256x32, .f32⟩
  | .hbm, ⟨1, _⟩ => ⟨S8193x32, .f32⟩
  | .hbm, ⟨2, _⟩ => ⟨S1024x32, .f32⟩
  | .hbm, ⟨3, _⟩ => ⟨S_, .i32⟩
  | .hbm, ⟨4, _⟩ => ⟨S_, .f32⟩
  | .hbm, ⟨5, _⟩ => ⟨S9216x32, .f32⟩
  | .hbm, ⟨6, _⟩ => ⟨S32x9216, .f32⟩
  | .hbm, ⟨7, _⟩ => ⟨S1024x32, .f32⟩
  | .hbm, ⟨8, _⟩ => ⟨S4x256, .i32⟩
  | .hbm, ⟨9, _⟩ => ⟨S1x1, .f32⟩
  | .hbm, ⟨10, _⟩ => ⟨S1x1, .i32⟩
  | .hbm, ⟨11, _⟩ => ⟨S4x256x32, .f32⟩
  | .hbm, ⟨12, _⟩ => ⟨S_, .f32⟩
  | .hbm, ⟨13, _⟩ => ⟨S_, .i32⟩
  | .local _ .vmem, ⟨0, _⟩ => ⟨S1024x32, .f32⟩
  | .local _ .vmem, ⟨1, _⟩ => ⟨S9216x32, .f32⟩
  | .local _ .vmem, ⟨2, _⟩ => ⟨S32x9216, .f32⟩
  | .local _ .vmem, ⟨3, _⟩ => ⟨S1024x32, .f32⟩
  | .local _ .vmem, ⟨4, _⟩ => ⟨S4x256, .i32⟩
  | .local _ .vmem, ⟨5, _⟩ => ⟨S4x1, .i32⟩
  | .local _ .vmem, ⟨6, _⟩ => ⟨S256x4x384, .f32⟩
  | .local _ .vmem, ⟨7, _⟩ => ⟨S16x16x4x384, .i32⟩
  | .local _ .vmem, ⟨8, _⟩ => ⟨S16x4x16, .i32⟩
  | .local _ .smem, ⟨0, _⟩ => ⟨S1x1, .f32⟩
  | .local _ .smem, ⟨1, _⟩ => ⟨S1x1, .i32⟩
  | .local _ .smem, ⟨2, _⟩ => ⟨S4x1, .i32⟩
  | _, _ => ⟨S4x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg5_0 : Ref sig .tc := ⟨.smem, 0, rfl⟩
abbrev cc0_stg6_0 : Ref sig .tc := ⟨.smem, 1, rfl⟩
abbrev cc0_scratch1 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v63 : BitVec 32) : Fin 2 → Nat :=
  let v67 : Index := Scalar.indexCast v63
  let c0_16 : Index := 0#32
  ![v67.toNat, 0]

def k0_chk1 (v63 : BitVec 32) : Prop :=
  (∀ a, (k0_off1 v63) a + S384x32.size a ≤ S9216x32.size a)
theorem k0_off1_inb : ∀ (v63 : BitVec 32) (k0_hw1 : k0_chk1 v63), ∀ a, (k0_off1 v63) a + S384x32.size a ≤ S9216x32.size a := fun v63 k0_hw1 => k0_hw1

def k0_off2 (v64 : BitVec 32) : Fin 2 → Nat :=
  let v86 : Index := Scalar.indexCast v64
  let c0_23 : Index := 0#32
  ![v86.toNat, 0]

def k0_chk2 (v64 : BitVec 32) : Prop :=
  (∀ a, (k0_off2 v64) a + S384x32.size a ≤ S9216x32.size a)
theorem k0_off2_inb : ∀ (v64 : BitVec 32) (k0_hw2 : k0_chk2 v64), ∀ a, (k0_off2 v64) a + S384x32.size a ≤ S9216x32.size a := fun v64 k0_hw2 => k0_hw2

def k0_off3 (v65 : BitVec 32) : Fin 2 → Nat :=
  let v105 : Index := Scalar.indexCast v65
  let c0_30 : Index := 0#32
  ![v105.toNat, 0]

def k0_chk3 (v65 : BitVec 32) : Prop :=
  (∀ a, (k0_off3 v65) a + S384x32.size a ≤ S9216x32.size a)
theorem k0_off3_inb : ∀ (v65 : BitVec 32) (k0_hw3 : k0_chk3 v65), ∀ a, (k0_off3 v65) a + S384x32.size a ≤ S9216x32.size a := fun v65 k0_hw3 => k0_hw3

def k0_off4 (v66 : BitVec 32) : Fin 2 → Nat :=
  let v124 : Index := Scalar.indexCast v66
  let c0_37 : Index := 0#32
  ![v124.toNat, 0]

def k0_chk4 (v66 : BitVec 32) : Prop :=
  (∀ a, (k0_off4 v66) a + S384x32.size a ≤ S9216x32.size a)
theorem k0_off4_inb : ∀ (v66 : BitVec 32) (k0_hw4 : k0_chk4 v66), ∀ a, (k0_off4 v66) a + S384x32.size a ≤ S9216x32.size a := fun v66 k0_hw4 => k0_hw4

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊤
  | _ => none
-- ==== ReferenceIdeal.lean ====
abbrev S4x256x32 : Shape := ⟨3, ![4, 256, 32]⟩
abbrev S8193x32 : Shape := ⟨2, ![8193, 32]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S8193 : Shape := ⟨1, ![8193]⟩
abbrev S1x8193 : Shape := ⟨2, ![1, 8193]⟩
abbrev S1024x8193 : Shape := ⟨2, ![1024, 8193]⟩
abbrev S32x8193 : Shape := ⟨2, ![32, 8193]⟩
abbrev S4x256x8193 : Shape := ⟨3, ![4, 256, 8193]⟩
abbrev S4x1x8193 : Shape := ⟨3, ![4, 1, 8193]⟩
abbrev S4x8193 : Shape := ⟨2, ![4, 8193]⟩
abbrev S4 : Shape := ⟨1, ![4]⟩
abbrev S4x1 : Shape := ⟨2, ![4, 1]⟩
abbrev S4x255x8193 : Shape := ⟨3, ![4, 255, 8193]⟩
abbrev S255x4x8193 : Shape := ⟨3, ![255, 4, 8193]⟩
abbrev S255x4 : Shape := ⟨2, ![255, 4]⟩
abbrev S1x4x8193 : Shape := ⟨3, ![1, 4, 8193]⟩
abbrev S4x1x1 : Shape := ⟨3, ![4, 1, 1]⟩
abbrev S1 : Shape := ⟨1, ![1]⟩
abbrev S1x1x1 : Shape := ⟨3, ![1, 1, 1]⟩
abbrev S1x4 : Shape := ⟨2, ![1, 4]⟩
abbrev S4x255 : Shape := ⟨2, ![4, 255]⟩
abbrev S4x256 : Shape := ⟨2, ![4, 256]⟩
abbrev S4x256x1 : Shape := ⟨3, ![4, 256, 1]⟩
abbrev S1x1x8193 : Shape := ⟨3, ![1, 1, 8193]⟩

abbrev nBuf : Space → Nat
  | .hbm => 232
  | .vmem => 0
  | .smem => 0
  | _ => 0

abbrev hbmTy0_0 (i : Nat) : BufTy := match i % 128 with
  | 0 => ⟨S4x256x32, .f32⟩
  | 1 => ⟨S8193x32, .f32⟩
  | 2 => ⟨S1024x32, .f32⟩
  | 3 => ⟨S1024x32, .f32⟩
  | 4 => ⟨S_, .f32⟩
  | 5 => ⟨S1024, .f32⟩
  | 6 => ⟨S1024x1, .f32⟩
  | 7 => ⟨S8193x32, .f32⟩
  | 8 => ⟨S_, .f32⟩
  | 9 => ⟨S8193, .f32⟩
  | 10 => ⟨S1x8193, .f32⟩
  | 11 => ⟨S1024x8193, .f32⟩
  | 12 => ⟨S1024x8193, .f32⟩
  | 13 => ⟨S1024x8193, .f32⟩
  | 14 => ⟨S32x8193, .f32⟩
  | 15 => ⟨S1024x8193, .f32⟩
  | 16 => ⟨S_, .f32⟩
  | 17 => ⟨S1024x8193, .f32⟩
  | 18 => ⟨S1024x8193, .f32⟩
  | 19 => ⟨S1024x8193, .f32⟩
  | 20 => ⟨S4x256x8193, .f32⟩
  | 21 => ⟨S4x1x8193, .f32⟩
  | 22 => ⟨S4x8193, .f32⟩
  | 23 => ⟨S4x8193, .i32⟩
  | 24 => ⟨S_, .f32⟩
  | 25 => ⟨S_, .i32⟩
  | 26 => ⟨S4, .f32⟩
  | 27 => ⟨S4, .i32⟩
  | 28 => ⟨S4x1, .i32⟩
  | 29 => ⟨S_, .i32⟩
  | 30 => ⟨S_, .i32⟩
  | 31 => ⟨S_, .i32⟩
  | 32 => ⟨S4x1, .i32⟩
  | 33 => ⟨S4x1, .i32⟩
  | 34 => ⟨S_, .i32⟩
  | 35 => ⟨S4x1, .i32⟩
  | 36 => ⟨S4x1, .i32⟩
  | 37 => ⟨S_, .f32⟩
  | 38 => ⟨S4x1, .f32⟩
  | 39 => ⟨S4x255x8193, .f32⟩
  | 40 => ⟨S255x4x8193, .f32⟩
  | 41 => ⟨S_, .i32⟩
  | 42 => ⟨S255x4, .i32⟩
  | 43 => ⟨S_, .i32⟩
  | 44 => ⟨S255x4x8193, .f32⟩
  | 45 => ⟨S_, .i32⟩
  | 46 => ⟨S4x1, .i32⟩
  | 47 => ⟨S4x1, .f32⟩
  | 48 => ⟨S255x4, .i32⟩
  | 49 => ⟨S_, .i32⟩
  | 50 => ⟨S_, .i1⟩
  | 51 => ⟨S_, .i32⟩
  | 52 => ⟨S_, .i32⟩
  | 53 => ⟨S1x4x8193, .f32⟩
  | 54 => ⟨S4x8193, .f32⟩
  | 55 => ⟨S_, .i32⟩
  | 56 => ⟨S4x1, .i32⟩
  | 57 => ⟨S4x1, .i1⟩
  | 58 => ⟨S_, .i32⟩
  | 59 => ⟨S4x1, .i32⟩
  | 60 => ⟨S4x1, .i32⟩
  | 61 => ⟨S4x1, .i32⟩
  | 62 => ⟨S4x1x1, .i32⟩
  | 63 => ⟨S1, .i32⟩
  | 64 => ⟨S_, .i32⟩
  | 65 => ⟨S4x1x1, .i32⟩
  | 66 => ⟨S4x1x1, .i1⟩
  | 67 => ⟨S1x1x1, .i32⟩
  | 68 => ⟨S4x1x1, .i32⟩
  | 69 => ⟨S4x1x1, .i1⟩
  | 70 => ⟨S4x1x1, .i1⟩
  | 71 => ⟨S_, .i1⟩
  | 72 => ⟨S4x1, .i1⟩
  | 73 => ⟨S4x1, .f32⟩
  | 74 => ⟨S_, .f32⟩
  | 75 => ⟨S4x1, .f32⟩
  | 76 => ⟨S4x1, .f32⟩
  | 77 => ⟨S_, .i32⟩
  | 78 => ⟨S4x1, .i32⟩
  | 79 => ⟨S4x1, .i32⟩
  | 80 => ⟨S_, .i32⟩
  | 81 => ⟨S_, .i32⟩
  | 82 => ⟨S_, .i32⟩
  | 83 => ⟨S4x1, .i32⟩
  | 84 => ⟨S4x1, .i32⟩
  | 85 => ⟨S_, .i32⟩
  | 86 => ⟨S4x1, .i32⟩
  | 87 => ⟨S4x1, .i32⟩
  | 88 => ⟨S_, .i32⟩
  | 89 => ⟨S4x1, .i32⟩
  | 90 => ⟨S4x1, .i1⟩
  | 91 => ⟨S_, .i32⟩
  | 92 => ⟨S4x1, .i32⟩
  | 93 => ⟨S4x1, .i32⟩
  | 94 => ⟨S4x1, .i32⟩
  | 95 => ⟨S4x1x1, .i32⟩
  | 96 => ⟨S1, .i32⟩
  | 97 => ⟨S_, .i32⟩
  | 98 => ⟨S4x1x1, .i32⟩
  | 99 => ⟨S4x1x1, .i1⟩
  | 100 => ⟨S1x1x1, .i32⟩
  | 101 => ⟨S4x1x1, .i32⟩
  | 102 => ⟨S4x1x1, .i1⟩
  | 103 => ⟨S4x1x1, .i1⟩
  | 104 => ⟨S_, .i1⟩
  | 105 => ⟨S4x1, .i1⟩
  | 106 => ⟨S4x1, .f32⟩
  | 107 => ⟨S_, .f32⟩
  | 108 => ⟨S4x1, .f32⟩
  | 109 => ⟨S4x1, .f32⟩
  | 110 => ⟨S4x1, .f32⟩
  | 111 => ⟨S4x1, .i1⟩
  | 112 => ⟨S4x1, .i32⟩
  | 113 => ⟨S_, .f32⟩
  | 114 => ⟨S4x1, .f32⟩
  | 115 => ⟨S4x1, .f32⟩
  | 116 => ⟨S_, .f32⟩
  | 117 => ⟨S4x1, .f32⟩
  | 118 => ⟨S4x1, .f32⟩
  | 119 => ⟨S4, .i32⟩
  | 120 => ⟨S1x4, .i32⟩
  | 121 => ⟨S_, .i32⟩
  | 122 => ⟨S255x4, .i32⟩
  | 123 => ⟨S_, .i32⟩
  | 124 => ⟨S_, .i32⟩
  | 125 => ⟨S4x255, .i32⟩
  | 126 => ⟨S4x256, .i32⟩
  | 127 => ⟨S1024, .i32⟩
  | _ => ⟨S4x256x32, .f32⟩

abbrev hbmTy0_1 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S1024x32, .f32⟩
  | 9 => ⟨S4x256x32, .f32⟩
  | 10 => ⟨S_, .i32⟩
  | 11 => ⟨S4x256, .i32⟩
  | 12 => ⟨S4x256, .i1⟩
  | 13 => ⟨S_, .i32⟩
  | 14 => ⟨S4x256, .i32⟩
  | 15 => ⟨S4x256, .i32⟩
  | 16 => ⟨S4x256, .i32⟩
  | 17 => ⟨S4x256x1, .i32⟩
  | 18 => ⟨S4x256x32, .f32⟩
  | 19 => ⟨S4x256x32, .f32⟩
  | 20 => ⟨S4x256x32, .f32⟩
  | 21 => ⟨S_, .f32⟩
  | 22 => ⟨S4x256, .f32⟩
  | 23 => ⟨S4x256x32, .f32⟩
  | 24 => ⟨S_, .f32⟩
  | 25 => ⟨S4x256, .f32⟩
  | 26 => ⟨S4x256x1, .f32⟩
  | 27 => ⟨S8193x32, .f32⟩
  | 28 => ⟨S_, .f32⟩
  | 29 => ⟨S8193, .f32⟩
  | 30 => ⟨S1x1x8193, .f32⟩
  | 31 => ⟨S4x256x8193, .f32⟩
  | 32 => ⟨S4x256x8193, .f32⟩
  | 33 => ⟨S4x256x8193, .f32⟩
  | 34 => ⟨S4x256x8193, .f32⟩
  | 35 => ⟨S_, .f32⟩
  | 36 => ⟨S4x256x8193, .f32⟩
  | 37 => ⟨S4x256x8193, .f32⟩
  | 38 => ⟨S4x256x8193, .f32⟩
  | 39 => ⟨S4x256x1, .f32⟩
  | 40 => ⟨S4x256x8193, .f32⟩
  | 41 => ⟨S4x256x8193, .f32⟩
  | 42 => ⟨S_, .f32⟩
  | 43 => ⟨S4x256x8193, .f32⟩
  | 44 => ⟨S4x256x8193, .f32⟩
  | 45 => ⟨S_, .f32⟩
  | 46 => ⟨S4x256x8193, .f32⟩
  | 47 => ⟨S4x256x8193, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .i32⟩
  | 55 => ⟨S4x256, .i32⟩
  | 56 => ⟨S4x256, .i1⟩
  | 57 => ⟨S_, .i32⟩
  | 58 => ⟨S4x256, .i32⟩
  | 59 => ⟨S4x256, .i32⟩
  | 60 => ⟨S4x256, .i32⟩
  | 61 => ⟨S4x256x1, .i32⟩
  | 62 => ⟨S4x256x32, .f32⟩
  | 63 => ⟨S4x256x32, .f32⟩
  | 64 => ⟨S4x256x32, .f32⟩
  | 65 => ⟨S_, .f32⟩
  | 66 => ⟨S4x256, .f32⟩
  | 67 => ⟨S4x256x32, .f32⟩
  | 68 => ⟨S_, .f32⟩
  | 69 => ⟨S4x256, .f32⟩
  | 70 => ⟨S4x256x1, .f32⟩
  | 71 => ⟨S8193x32, .f32⟩
  | 72 => ⟨S_, .f32⟩
  | 73 => ⟨S8193, .f32⟩
  | 74 => ⟨S1x1x8193, .f32⟩
  | 75 => ⟨S4x256x8193, .f32⟩
  | 76 => ⟨S4x256x8193, .f32⟩
  | 77 => ⟨S4x256x8193, .f32⟩
  | 78 => ⟨S4x256x8193, .f32⟩
  | 79 => ⟨S_, .f32⟩
  | 80 => ⟨S4x256x8193, .f32⟩
  | 81 => ⟨S4x256x8193, .f32⟩
  | 82 => ⟨S4x256x8193, .f32⟩
  | 83 => ⟨S4x256x1, .f32⟩
  | 84 => ⟨S4x256x8193, .f32⟩
  | 85 => ⟨S4x256x8193, .f32⟩
  | 86 => ⟨S_, .f32⟩
  | 87 => ⟨S4x256x8193, .f32⟩
  | 88 => ⟨S4x256x8193, .f32⟩
  | 89 => ⟨S_, .f32⟩
  | 90 => ⟨S4x256x8193, .f32⟩
  | 91 => ⟨S4x256x8193, .f32⟩
  | 92 => ⟨S_, .f32⟩
  | 93 => ⟨S_, .f32⟩
  | 94 => ⟨S_, .f32⟩
  | 95 => ⟨S_, .f32⟩
  | 96 => ⟨S_, .f32⟩
  | 97 => ⟨S4x256x32, .f32⟩
  | 98 => ⟨S4x256x32, .f32⟩
  | 99 => ⟨S_, .i32⟩
  | 100 => ⟨S_, .i32⟩
  | 101 => ⟨S_, .i32⟩
  | 102 => ⟨S_, .i32⟩
  | 103 => ⟨S_, .i32⟩
  | _ => ⟨S4x256x32, .f32⟩

abbrev hbmTy (i : Nat) : BufTy := match i / 128 with
  | 0 => hbmTy0_0 i
  | 1 => hbmTy0_1 i
  | _ => ⟨S4x256x32, .f32⟩

abbrev bufTy : (tb : Table) → Fin (tcTables nBuf tb) → BufTy
  | .hbm, ⟨i, _⟩ => hbmTy i
  | _, _ => ⟨S4x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_c_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_c_5 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v25_3 : Ref sig .tc := ⟨.hbm, 47, rfl⟩
abbrev main_v25_4 : Ref sig .tc := ⟨.hbm, 48, rfl⟩
abbrev main_while0c_c_35 : Ref sig .tc := ⟨.hbm, 49, rfl⟩
abbrev main_while0c_v108 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_v0 : Ref sig .tc := ⟨.hbm, 53, rfl⟩
abbrev main_while0b_v108 : Ref sig .tc := ⟨.hbm, 54, rfl⟩
abbrev main_while0b_call3_c : Ref sig .tc := ⟨.hbm, 55, rfl⟩
abbrev main_while0b_call3_v0 : Ref sig .tc := ⟨.hbm, 56, rfl⟩
abbrev main_while0b_call3_v1 : Ref sig .tc := ⟨.hbm, 57, rfl⟩
abbrev main_while0b_call3_c_0 : Ref sig .tc := ⟨.hbm, 58, rfl⟩
abbrev main_while0b_call3_v2 : Ref sig .tc := ⟨.hbm, 59, rfl⟩
abbrev main_while0b_call3_v3 : Ref sig .tc := ⟨.hbm, 60, rfl⟩
abbrev main_while0b_call3_v4 : Ref sig .tc := ⟨.hbm, 61, rfl⟩
abbrev main_while0b_call3_v5 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v6 : Ref sig .tc := ⟨.hbm, 65, rfl⟩
abbrev main_while0b_call3_v7 : Ref sig .tc := ⟨.hbm, 66, rfl⟩
abbrev main_while0b_call3_v8 : Ref sig .tc := ⟨.hbm, 67, rfl⟩
abbrev main_while0b_call3_v9 : Ref sig .tc := ⟨.hbm, 68, rfl⟩
abbrev main_while0b_call3_v10 : Ref sig .tc := ⟨.hbm, 69, rfl⟩
abbrev main_while0b_call3_v11 : Ref sig .tc := ⟨.hbm, 70, rfl⟩
abbrev main_while0b_call3_c_3 : Ref sig .tc := ⟨.hbm, 71, rfl⟩
abbrev main_while0b_call3_v12 : Ref sig .tc := ⟨.hbm, 72, rfl⟩
abbrev main_while0b_call3_v13 : Ref sig .tc := ⟨.hbm, 73, rfl⟩
abbrev main_while0b_call3_cst : Ref sig .tc := ⟨.hbm, 74, rfl⟩
abbrev main_while0b_call3_v14 : Ref sig .tc := ⟨.hbm, 75, rfl⟩
abbrev main_while0b_v109 : Ref sig .tc := ⟨.hbm, 76, rfl⟩
abbrev main_while0b_c_35 : Ref sig .tc := ⟨.hbm, 77, rfl⟩
abbrev main_while0b_v110 : Ref sig .tc := ⟨.hbm, 78, rfl⟩
abbrev main_while0b_v111 : Ref sig .tc := ⟨.hbm, 79, rfl⟩
abbrev main_while0b_c_36 : Ref sig .tc := ⟨.hbm, 80, rfl⟩
abbrev main_while0b_c_37 : Ref sig .tc := ⟨.hbm, 81, rfl⟩
abbrev main_while0b_call4_v0 : Ref sig .tc := ⟨.hbm, 82, rfl⟩
abbrev main_while0b_call4_v1 : Ref sig .tc := ⟨.hbm, 83, rfl⟩
abbrev main_while0b_call4_v2 : Ref sig .tc := ⟨.hbm, 84, rfl⟩
abbrev main_while0b_call4_v3 : Ref sig .tc := ⟨.hbm, 85, rfl⟩
abbrev main_while0b_call4_v4 : Ref sig .tc := ⟨.hbm, 86, rfl⟩
abbrev main_while0b_v112 : Ref sig .tc := ⟨.hbm, 87, rfl⟩
abbrev main_while0b_call5_c : Ref sig .tc := ⟨.hbm, 88, rfl⟩
abbrev main_while0b_call5_v0 : Ref sig .tc := ⟨.hbm, 89, rfl⟩
abbrev main_while0b_call5_v1 : Ref sig .tc := ⟨.hbm, 90, rfl⟩
abbrev main_while0b_call5_c_0 : Ref sig .tc := ⟨.hbm, 91, rfl⟩
abbrev main_while0b_call5_v2 : Ref sig .tc := ⟨.hbm, 92, rfl⟩
abbrev main_while0b_call5_v3 : Ref sig .tc := ⟨.hbm, 93, rfl⟩
abbrev main_while0b_call5_v4 : Ref sig .tc := ⟨.hbm, 94, rfl⟩
abbrev main_while0b_call5_v5 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v6 : Ref sig .tc := ⟨.hbm, 98, rfl⟩
abbrev main_while0b_call5_v7 : Ref sig .tc := ⟨.hbm, 99, rfl⟩
abbrev main_while0b_call5_v8 : Ref sig .tc := ⟨.hbm, 100, rfl⟩
abbrev main_while0b_call5_v9 : Ref sig .tc := ⟨.hbm, 101, rfl⟩
abbrev main_while0b_call5_v10 : Ref sig .tc := ⟨.hbm, 102, rfl⟩
abbrev main_while0b_call5_v11 : Ref sig .tc := ⟨.hbm, 103, rfl⟩
abbrev main_while0b_call5_c_3 : Ref sig .tc := ⟨.hbm, 104, rfl⟩
abbrev main_while0b_call5_v12 : Ref sig .tc := ⟨.hbm, 105, rfl⟩
abbrev main_while0b_call5_v13 : Ref sig .tc := ⟨.hbm, 106, rfl⟩
abbrev main_while0b_call5_cst : Ref sig .tc := ⟨.hbm, 107, rfl⟩
abbrev main_while0b_call5_v14 : Ref sig .tc := ⟨.hbm, 108, rfl⟩
abbrev main_while0b_v113 : Ref sig .tc := ⟨.hbm, 109, rfl⟩
abbrev main_while0b_v114 : Ref sig .tc := ⟨.hbm, 110, rfl⟩
abbrev main_while0b_v115 : Ref sig .tc := ⟨.hbm, 111, rfl⟩
abbrev main_while0b_v116 : Ref sig .tc := ⟨.hbm, 112, rfl⟩
abbrev main_while0b_cst_38 : Ref sig .tc := ⟨.hbm, 113, rfl⟩
abbrev main_while0b_v117 : Ref sig .tc := ⟨.hbm, 114, rfl⟩
abbrev main_while0b_v118 : Ref sig .tc := ⟨.hbm, 115, rfl⟩
abbrev main_while0b_cst_39 : Ref sig .tc := ⟨.hbm, 116, rfl⟩
abbrev main_while0b_v119 : Ref sig .tc := ⟨.hbm, 117, rfl⟩
abbrev main_while0b_v120 : Ref sig .tc := ⟨.hbm, 118, rfl⟩
abbrev main_while0b_v121 : Ref sig .tc := ⟨.hbm, 119, rfl⟩
abbrev main_while0b_call8_v0 : Ref sig .tc := ⟨.hbm, 120, rfl⟩
abbrev main_while0b_call8_c : Ref sig .tc := ⟨.hbm, 121, rfl⟩
abbrev main_while0b_v122 : Ref sig .tc := ⟨.hbm, 122, rfl⟩
abbrev main_while0b_c_40 : Ref sig .tc := ⟨.hbm, 123, rfl⟩
abbrev main_while0b_v123 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_c_6 : Ref sig .tc := ⟨.hbm, 128, rfl⟩
abbrev main_v29 : Ref sig .tc := ⟨.hbm, 129, rfl⟩
abbrev main_v30 : Ref sig .tc := ⟨.hbm, 130, rfl⟩
abbrev main_c_7 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_c_8 : Ref sig .tc := ⟨.hbm, 138, rfl⟩
abbrev main_v37 : Ref sig .tc := ⟨.hbm, 139, rfl⟩
abbrev main_v38 : Ref sig .tc := ⟨.hbm, 140, rfl⟩
abbrev main_c_9 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_cst_10 : Ref sig .tc := ⟨.hbm, 149, rfl⟩
abbrev main_v46 : Ref sig .tc := ⟨.hbm, 150, rfl⟩
abbrev main_v47 : Ref sig .tc := ⟨.hbm, 151, rfl⟩
abbrev main_cst_11 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_cst_12 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_cst_13 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_cst_14 : Ref sig .tc := ⟨.hbm, 170, rfl⟩
abbrev main_v63 : Ref sig .tc := ⟨.hbm, 171, rfl⟩
abbrev main_v64 : Ref sig .tc := ⟨.hbm, 172, rfl⟩
abbrev main_cst_15 : Ref sig .tc := ⟨.hbm, 173, rfl⟩
abbrev main_v65 : Ref sig .tc := ⟨.hbm, 174, rfl⟩
abbrev main_v66 : Ref sig .tc := ⟨.hbm, 175, rfl⟩
abbrev main_cst_16 : Ref sig .tc := ⟨.hbm, 176, rfl⟩
abbrev main_v67 : Ref sig .tc := ⟨.hbm, 177, rfl⟩
abbrev main_cst_17 : Ref sig .tc := ⟨.hbm, 178, rfl⟩
abbrev main_v68 : Ref sig .tc := ⟨.hbm, 179, rfl⟩
abbrev main_cst_18 : Ref sig .tc := ⟨.hbm, 180, rfl⟩
abbrev main_v69 : Ref sig .tc := ⟨.hbm, 181, rfl⟩
abbrev main_c_19 : Ref sig .tc := ⟨.hbm, 182, rfl⟩
abbrev main_v70 : Ref sig .tc := ⟨.hbm, 183, rfl⟩
abbrev main_v71 : Ref sig .tc := ⟨.hbm, 184, rfl⟩
abbrev main_c_20 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_cst_21 : Ref sig .tc := ⟨.hbm, 193, rfl⟩
abbrev main_v79 : Ref sig .tc := ⟨.hbm, 194, rfl⟩
abbrev main_v80 : Ref sig .tc := ⟨.hbm, 195, rfl⟩
abbrev main_cst_22 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_cst_23 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_cst_24 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_cst_25 : Ref sig .tc := ⟨.hbm, 214, rfl⟩
abbrev main_v96 : Ref sig .tc := ⟨.hbm, 215, rfl⟩
abbrev main_v97 : Ref sig .tc := ⟨.hbm, 216, rfl⟩
abbrev main_cst_26 : Ref sig .tc := ⟨.hbm, 217, rfl⟩
abbrev main_v98 : Ref sig .tc := ⟨.hbm, 218, rfl⟩
abbrev main_v99 : Ref sig .tc := ⟨.hbm, 219, rfl⟩
abbrev main_cst_27 : Ref sig .tc := ⟨.hbm, 220, rfl⟩
abbrev main_v100 : Ref sig .tc := ⟨.hbm, 221, rfl⟩
abbrev main_cst_28 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_c_29 : Ref sig .tc := ⟨.hbm, 227, rfl⟩
abbrev main_v105 : Ref sig .tc := ⟨.hbm, 228, rfl⟩
abbrev main_c_30 : Ref sig .tc := ⟨.hbm, 229, rfl⟩
abbrev main_v106 : Ref sig .tc := ⟨.hbm, 230, rfl⟩
abbrev main_v107 : Ref sig .tc := ⟨.hbm, 231, rfl⟩

abbrev nD : Nat := 1
abbrev τ : Topo := Topo.v7x

variable {F : FTy → Type} [FloatOps F]

abbrev main_while0_count : Scf.Loop 32 := ⟨0#32, 255#32, 1#32⟩
-- ==== Proof.KI.Body.lean ====
/- What the kernel's body does, run once: from the three staged inputs at their contents it leaves
   the four result windows at values read off the run, every scratch buffer at something and its transfer's
   counter at zero again. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- Memref `M`'s buffer on core `c` held whole at `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

abbrev wz : Memref sig .tc .vmem S1024x32 .f32 := Memref.whole cc0_stg0_0
abbrev we : Memref sig .tc .vmem S9216x32 .f32 := Memref.whole cc0_stg1_0
abbrev wt : Memref sig .tc .vmem S32x9216 .f32 := Memref.whole cc0_stg2_0
abbrev wq : Memref sig .tc .vmem S1024x32 .f32 := Memref.whole cc0_stg3_0
abbrev wi : Memref sig .tc .vmem S4x256 .i32 := Memref.whole cc0_stg4_0
abbrev wl : Memref sig .tc .smem S1x1 .f32 := Memref.whole cc0_stg5_0
abbrev wv : Memref sig .tc .smem S1x1 .i32 := Memref.whole cc0_stg6_0

/-- The first codes of the four rows, as the kernel's first buffer holds them: the row's argmin clipped to `[0, 8191]`. -/
@[irreducible] def wordBuf (x0 : Vec F S1024x32 .f32) (x2 : Vec F S32x9216 .f32) : Vec F S4x1 .i32 :=
  k0_pay8 (iota .tc S4x9216 32 [1] iota_S4x9216_d1_w32) (k0_pay6 x0 x2) (k0_pay7 x0 x2)

/-- A word clipped to `[0, 8191]` is at most 8191. -/
theorem clip_le (w : BitVec 32) : (IntOp.minsi 8191#32 (IntOp.maxsi 0#32 w)).toNat ≤ 8191 := by
  have e1 : (8191#32).toInt = 8191 := rfl
  have e0 : (0#32).toInt = 0 := rfl
  have hw := BitVec.toInt_eq_toNat_cond (x := w)
  unfold IntOp.minsi IntOp.maxsi
  simp only [BitVec.slt_iff_toInt_lt]
  split_ifs with h1 h2 <;> simp only [e0, e1, BitVec.toNat_ofNat] at * <;> split_ifs at * <;> omega

/-- Every entry of the first codes is at most 8191. -/
theorem pay8_le (a : IVec S4x9216 32) (b : FVec F S4x9216 .f32) (d : FVec F S4 .f32) (i : S4x1.Idx) :
    (k0_pay8 a b d i).toNat ≤ 8191 := by
  dsimp only [k0_pay8, shapeCast, minsi, maxsi, broadcast]
  exact clip_le _

/-- A window of 384 rows that starts at a code lies in the padded table. -/
theorem rows_inb {w : BitVec 32} (h : w.toNat ≤ 8191) :
    ∀ a : Fin 2, (![(Scalar.indexCast w).toNat, 0] : Fin 2 → Nat) a + S384x32.size a ≤ S9216x32.size a := by
  intro a; fin_cases a
  · show w.toNat + 384 ≤ 9216
    omega
  · show 0 + 32 ≤ 32
    omega

/-- Every first code is at most 8191. -/
theorem wordBuf_le (x0 : Vec F S1024x32 .f32) (x2 : Vec F S32x9216 .f32) (i : S4x1.Idx) : (wordBuf x0 x2 i).toNat ≤ 8191 := by
  unfold wordBuf
  exact pay8_le _ _ _ _

/-- The four windows that start at the first codes lie in the padded table. -/
theorem chk1 {w : BitVec 32} (h : w.toNat ≤ 8191) : k0_chk1 w := rows_inb h
theorem chk2 {w : BitVec 32} (h : w.toNat ≤ 8191) : k0_chk2 w := rows_inb h
theorem chk3 {w : BitVec 32} (h : w.toNat ≤ 8191) : k0_chk3 w := rows_inb h
theorem chk4 {w : BitVec 32} (h : w.toNat ≤ 8191) : k0_chk4 w := rows_inb h

/-- The first codes depend on the two inputs' contents alone. -/
theorem words_congr {a a' : Vec F S1024x32 .f32} {b b' : Vec F S32x9216 .f32} (h : a = a') (h' : b = b') :
    k0_pay8 (iota .tc S4x9216 32 [1] iota_S4x9216_d1_w32) (k0_pay6 a b) (k0_pay7 a b)
      = k0_pay8 (iota .tc S4x9216 32 [1] iota_S4x9216_d1_w32) (k0_pay6 a' b') (k0_pay7 a' b') := by
  subst h h'; rfl

/-- Row `b` of the word buffer. -/
abbrev ix (b : Fin 4) : S4x1.Idx := fun a => match a with | 0 => b | 1 => (0 : Fin 1)

/-- The word read at row 0 of the buffer. -/
theorem word0 (f : Vec F S4x1 .i32) (h : (Rect.unit (s := S4x1) ![0, 0] S1x1.size inb_S4x1_S1x1_0_0).shape.numel = 1) (h' : 0 < (Rect.unit (s := S4x1) ![0, 0] S1x1.size inb_S4x1_S1x1_0_0).shape.numel) :
    View.readAt (Elt F) (Memref.whole cc0_scratch1).view (Rect.unit (s := S4x1) ![0, 0] S1x1.size inb_S4x1_S1x1_0_0).toLoadRect f
      (Shape.Idx.first h') = f (ix 0) := by
  refine congrArg f (funext fun a => Fin.ext ?_)
  fin_cases a <;> rfl

set_option maxHeartbeats 4000000 in
/-- What the run leaves in the four result windows, with the proof that it does. -/
def kernelRun (c : Dev nD) (x0 : Vec F S1024x32 .f32) (x1 : Vec F S9216x32 .f32) (x2 : Vec F S32x9216 .f32)
    (w : Vec F S4x1 .i32) (hw : ∀ i, (w i).toNat ≤ 8191) (hwb : wordBuf x0 x2 = w) :
    { L : List (View.Piece (Elt F) S1024x32 .f32) × List (View.Piece (Elt F) S4x256 .i32)
        × List (View.Piece (Elt F) S1x1 .f32) × List (View.Piece (Elt F) S1x1 .i32) //
      ∀ (W : Waits sig Unit) (K : PUnit → sProp 𝕄) (f3 : Vec F S1024x32 .f32) (f4 : Vec F S4x256 .i32) (f5 : Vec F S1x1 .f32) (f6 : Vec F S1x1 .i32),
        iprop(pt c wz x0 ∗ pt c we x1 ∗ pt c wt x2
            ∗ pt c wq f3 ∗ pt c wi f4 ∗ pt c wl f5 ∗ pt c wv f6
            ∗ (∃ f, pt c (Memref.whole cc0_scratch0) f) ∗ (∃ f, pt c (Memref.whole cc0_scratch3) f) ∗ (∃ f, pt c (Memref.whole cc0_scratch4) f) ∗ (∃ f, pt c (Memref.whole cc0_scratch5) f)
            ∗ (∃ f, pt c (Memref.whole cc0_scratch1) f)
            ∗ semVal ((c : Thread nD τ), SemLoc.dma 7) 0
            ∗ owes (c : Thread nD τ) 0 W
            ∗ (iprop(pt c wz x0 ∗ pt c we x1 ∗ pt c wt x2
                ∗ (pt c wq (wq.view.writes (Elt F) f3 L.1)) ∗ (pt c wi (wi.view.writes (Elt F) f4 L.2.1))
                ∗ (pt c wl (wl.view.writes (Elt F) f5 L.2.2.1)) ∗ (pt c wv (wv.view.writes (Elt F) f6 L.2.2.2))
                ∗ (∃ f, pt c (Memref.whole cc0_scratch0) f) ∗ (∃ f, pt c (Memref.whole cc0_scratch3) f) ∗ (∃ f, pt c (Memref.whole cc0_scratch4) f) ∗ (∃ f, pt c (Memref.whole cc0_scratch5) f)
                ∗ (∃ f, pt c (Memref.whole cc0_scratch1) f)
                ∗ semVal ((c : Thread nD τ), SemLoc.dma 7) 0
                ∗ (∃ W', owes (c : Thread nD τ) 0 W')) -∗ K ⟨⟩))
          ⊢ wp frame (wpE (defs₀ (F := F)) Variants.none c none) Set.univ
              (cc0__fused_kernel wz (Memref.isWhole_whole _) we (Memref.isWhole_whole _) wt (Memref.isWhole_whole _)
                wq (Memref.isWhole_whole _) wi (Memref.isWhole_whole _) wl (Memref.isWhole_whole _) wv (Memref.isWhole_whole _)
                (Memref.whole cc0_scratch0) (Memref.isWhole_whole _) (Memref.whole cc0_scratch1) (Memref.isWhole_whole _) cc0_scratch2
                (Memref.whole cc0_scratch3) (Memref.isWhole_whole _) (Memref.whole cc0_scratch4) (Memref.isWhole_whole _)
                (Memref.whole cc0_scratch5) (Memref.isWhole_whole _)) K } := by
  refine ⟨⟨?_, ?_, ?_, ?_⟩, fun W K f3 f4 f5 f6 => ?run⟩
  case run =>
    iintro ⟨H0, H1, H2, H3, H4, H5, H6, ⟨%g0, G0⟩, ⟨%g3, G3⟩, ⟨%g4, G4⟩, ⟨%g5, G5⟩, ⟨%g1, G1⟩, HS, HW, Hk⟩
    sl_exec_parts
    have hz : View.readAt (Elt F) wz.view (Rect.unit (s := S1024x32) ![0, 0] S1024x32.size inb_S1024x32_S1024x32_0_0).toLoadRect x0 = x0 :=
      View.readAt_full _ _ _
    have ht : View.readAt (Elt F) wt.view (Rect.unit (s := S32x9216) ![0, 0] S32x9216.size inb_S32x9216_S32x9216_0_0).toLoadRect x2 = x2 :=
      View.readAt_full _ _ _
    have e0 : kernelRun.sl.dma4 c x0 x2 g0 = w := by
      rw [← hwb]
      unfold wordBuf
      exact (View.read_writes_full (Memref.whole cc0_scratch0).view g0 inb_S4x1_S4x1_0_0 _ []).trans
        (words_congr hz ht)
    have e1 : View.write (Elt F) (Memref.whole cc0_scratch1).view g1 (kernelRun.sl.dma4 c x0 x2 g0) Finset.univ = w :=
      (View.write_whole_univ _ _ _).trans e0
    have e2 : kernelRun.sl.r_6 c x0 x2 g0 g1 = w (ix 0) := by
      unfold kernelRun.sl.r_6 kernelRun.sl.f
      exact (word0 _ (by decide) (by decide)).trans (congrFun e1 (ix 0))
    rw [e1, e2]
    sl_exec (disch := first | (with_reducible apply chk1); exact hw _ | (with_reducible apply chk2); exact hw _ | (with_reducible apply chk3); exact hw _ | (with_reducible apply chk4); exact hw _)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]; · iexists _; iexact G0
    isplitl [G3]; · iexists _; iexact G3
    isplitl [G4]; · iexists _; iexact G4
    isplitl [G5]; · iexists _; iexact G5
    isplitl [G1]; · iexists _; iexact G1
    isplitl [HS]; · iexact HS
    iexists _; iexact HW

end Cert.KernelIdeal.Hand

end
-- ==== Proof.KI.Frame.lean ====
/- The launch of the kernel: its body's obligation from the run of the body, the run of the
   whole program around it, and the frame: the arguments end as they began and every counter ends at zero. -/
module

public import proofs.«01_k».proof.Proof.KI.Body
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What the body leaves in the result windows -/

section Outs
variable (c : Dev nD) (x0 : Vec F S1024x32 .f32) (x1 : Vec F S9216x32 .f32) (x2 : Vec F S32x9216 .f32)

/-- The run of the body at the kernel's own first codes. -/
abbrev runOf := kernelRun c x0 x1 x2 (wordBuf x0 x2) (wordBuf_le x0 x2) rfl

theorem out3_ex : ∃ v : Vec F S1024x32 .f32, ∀ f, wq.view.read (Elt F) (wq.view.writes (Elt F) f (runOf c x0 x1 x2).1.1) = v :=
  ⟨_, fun f => View.read_writes_full wq.view f inb_S1024x32_S1024x32_0_0 _ []⟩
theorem out4_ex : ∃ v : Vec F S4x256 .i32, ∀ f, wi.view.read (Elt F) (wi.view.writes (Elt F) f (runOf c x0 x1 x2).1.2.1) = v :=
  ⟨_, fun f => View.read_writes_full wi.view f inb_S4x256_S4x256_0_0 _ []⟩
theorem out5_ex : ∃ v : Vec F S1x1 .f32, ∀ f, wl.view.read (Elt F) (wl.view.writes (Elt F) f (runOf c x0 x1 x2).1.2.2.1) = v :=
  ⟨_, fun f => View.read_writes_full wl.view f inb_S1x1_S1x1_0_0 _ []⟩
theorem out6_ex : ∃ v : Vec F S1x1 .i32, ∀ f, wv.view.read (Elt F) (wv.view.writes (Elt F) f (runOf c x0 x1 x2).1.2.2.2) = v :=
  ⟨_, fun f => View.read_writes_full wv.view f inb_S1x1_S1x1_0_0 _ []⟩

/-- The quantised vectors the body leaves. -/
def out3 : Vec F S1024x32 .f32 := Classical.choose (out3_ex c x0 x1 x2)
/-- The codes the body leaves. -/
def out4 : Vec F S4x256 .i32 := Classical.choose (out4_ex c x0 x1 x2)
/-- The loss the body leaves. -/
def out5 : Vec F S1x1 .f32 := Classical.choose (out5_ex c x0 x1 x2)
/-- The spread of the codes the body leaves. -/
def out6 : Vec F S1x1 .i32 := Classical.choose (out6_ex c x0 x1 x2)

theorem out3_spec (f) : wq.view.read (Elt F) (wq.view.writes (Elt F) f (runOf c x0 x1 x2).1.1) = out3 c x0 x1 x2 :=
  Classical.choose_spec (out3_ex c x0 x1 x2) f
theorem out4_spec (f) : wi.view.read (Elt F) (wi.view.writes (Elt F) f (runOf c x0 x1 x2).1.2.1) = out4 c x0 x1 x2 :=
  Classical.choose_spec (out4_ex c x0 x1 x2) f
theorem out5_spec (f) : wl.view.read (Elt F) (wl.view.writes (Elt F) f (runOf c x0 x1 x2).1.2.2.1) = out5 c x0 x1 x2 :=
  Classical.choose_spec (out5_ex c x0 x1 x2) f
theorem out6_spec (f) : wv.view.read (Elt F) (wv.view.writes (Elt F) f (runOf c x0 x1 x2).1.2.2.2) = out6 c x0 x1 x2 :=
  Classical.choose_spec (out6_ex c x0 x1 x2) f

end Outs

variable (m : (ℓ : Loc nD τ sig) → Buf (Elt F) ℓ) (ρ : Dev nD → PrngReg)

/-! ## The proof data -/

/-- The one counter of the body's own transfer. -/
abbrev osem0 : Fin 1 → SemLoc sig := fun _ => SemLoc.dma 7
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 7) 0 := by
  rw [Pipeline.ownSems0_eq_of_list c osem0 [0] (by decide) (by decide)]; rfl

/-- The three staged inputs. -/
@[irreducible] def X0 (c : Dev nD) : Vec F S1024x32 .f32 := Gen.iblk m c 0 t0_0
@[irreducible] def X1 (c : Dev nD) : Vec F S9216x32 .f32 := Gen.iblk m c 1 t0_0
@[irreducible] def X2 (c : Dev nD) : Vec F S32x9216 .f32 := Gen.iblk m c 2 t0_0

/-- The proof data: the arrays as the region finds them, the inputs left as fetched, the results at what the body leaves. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => X0 m c
    | ⟨1, _⟩ => X1 m c
    | ⟨2, _⟩ => X2 m c
    | ⟨3, _⟩ => out3 c (X0 m c) (X1 m c) (X2 m c)
    | ⟨4, _⟩ => out4 c (X0 m c) (X1 m c) (X2 m c)
    | ⟨5, _⟩ => out5 c (X0 m c) (X1 m c) (X2 m c)
    | ⟨6, _⟩ => out6 c (X0 m c) (X1 m c) (X2 m c)
  Φ _ := Pipeline.ΦD osem0 spec0 ∅ (Gen.V m) c
  q _ := fullShare
  owed _ := 0

theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = X0 m c := by dsimp only [dats]
theorem after_1 (c : Dev nD) (t : Fin cfg0.N) : (dats m 0 c).after 1 t = X1 m c := by dsimp only [dats]
theorem after_2 (c : Dev nD) (t : Fin cfg0.N) : (dats m 0 c).after 2 t = X2 m c := by dsimp only [dats]
theorem after_3 (c : Dev nD) (t : Fin cfg0.N) : (dats m 0 c).after 3 t = out3 c (X0 m c) (X1 m c) (X2 m c) := by dsimp only [dats]
theorem after_4 (c : Dev nD) (t : Fin cfg0.N) : (dats m 0 c).after 4 t = out4 c (X0 m c) (X1 m c) (X2 m c) := by dsimp only [dats]
theorem after_5 (c : Dev nD) (t : Fin cfg0.N) : (dats m 0 c).after 5 t = out5 c (X0 m c) (X1 m c) (X2 m c) := by dsimp only [dats]
theorem after_6 (c : Dev nD) (t : Fin cfg0.N) : (dats m 0 c).after 6 t = out6 c (X0 m c) (X1 m c) (X2 m c) := by dsimp only [dats]

theorem before_0 (c : Dev nD) (d) : (dats m 0 c).before 0 t0_0 d = X0 m c := by
  unfold Dat.before X0; rw [if_pos (by decide)]; rfl
theorem before_1 (c : Dev nD) (d) : (dats m 0 c).before 1 t0_0 d = X1 m c := by
  unfold Dat.before X1; rw [if_pos (by decide)]; rfl
theorem before_2 (c : Dev nD) (d) : (dats m 0 c).before 2 t0_0 d = X2 m c := by
  unfold Dat.before X2; rw [if_pos (by decide)]; rfl

/-- What the body needs: the invariant, no debt, every window's buffer. -/
def bodyPre (c : Dev nD) : sProp 𝕄 :=
  iprop((dats m 0 c).Φ t0_0.castSucc ∗ (dats m 0 c).owesAt () t0_0.castSucc
    ∗ (∃ d, owns (c : Thread nD τ) (st0_0 t0_0) fullShare ((dats m 0 c).before 0 t0_0 d))
    ∗ (∃ d, owns (c : Thread nD τ) (st0_1 t0_0) fullShare ((dats m 0 c).before 1 t0_0 d))
    ∗ (∃ d, owns (c : Thread nD τ) (st0_2 t0_0) fullShare ((dats m 0 c).before 2 t0_0 d))
    ∗ (∃ d, owns (c : Thread nD τ) (st0_3 t0_0) fullShare ((dats m 0 c).before 3 t0_0 d))
    ∗ (∃ d, owns (c : Thread nD τ) (st0_4 t0_0) fullShare ((dats m 0 c).before 4 t0_0 d))
    ∗ (∃ d, owns (c : Thread nD τ) (st0_5 t0_0) fullShare ((dats m 0 c).before 5 t0_0 d))
    ∗ (∃ d, owns (c : Thread nD τ) (st0_6 t0_0) fullShare ((dats m 0 c).before 6 t0_0 d)))
/-- What the body leaves. -/
def bodyPost (c : Dev nD) : sProp 𝕄 :=
  iprop((dats m 0 c).Φ t0_0.succ ∗ (dats m 0 c).owesAt () t0_0.succ
    ∗ owns (c : Thread nD τ) (st0_0 t0_0) fullShare ((dats m 0 c).after 0 t0_0)
    ∗ owns (c : Thread nD τ) (st0_1 t0_0) fullShare ((dats m 0 c).after 1 t0_0)
    ∗ owns (c : Thread nD τ) (st0_2 t0_0) fullShare ((dats m 0 c).after 2 t0_0)
    ∗ owns (c : Thread nD τ) (st0_3 t0_0) fullShare ((dats m 0 c).after 3 t0_0)
    ∗ owns (c : Thread nD τ) (st0_4 t0_0) fullShare ((dats m 0 c).after 4 t0_0)
    ∗ owns (c : Thread nD τ) (st0_5 t0_0) fullShare ((dats m 0 c).after 5 t0_0)
    ∗ owns (c : Thread nD τ) (st0_6 t0_0) fullShare ((dats m 0 c).after 6 t0_0))

/-- The run of the body, at the staging buffers as the pipeline names them. -/
theorem body_core (c : Dev nD) (x0 : Vec F S1024x32 .f32) (x1 : Vec F S9216x32 .f32) (x2 : Vec F S32x9216 .f32)
    (W : Waits sig Unit) (K : PUnit → sProp 𝕄) (f3 : Vec F S1024x32 .f32) (f4 : Vec F S4x256 .i32) (f5 : Vec F S1x1 .f32) (f6 : Vec F S1x1 .i32) :
    iprop(((st0_0 t0_0).view.loc (c : Thread nD τ) ↦{fullShare} x0) ∗ ((st0_1 t0_0).view.loc (c : Thread nD τ) ↦{fullShare} x1) ∗ ((st0_2 t0_0).view.loc (c : Thread nD τ) ↦{fullShare} x2)
        ∗ ((st0_3 t0_0).view.loc (c : Thread nD τ) ↦{fullShare} f3) ∗ ((st0_4 t0_0).view.loc (c : Thread nD τ) ↦{fullShare} f4) ∗ ((st0_5 t0_0).view.loc (c : Thread nD τ) ↦{fullShare} f5) ∗ ((st0_6 t0_0).view.loc (c : Thread nD τ) ↦{fullShare} f6)
        ∗ (∃ f, ((c : Thread nD τ).loc cc0_scratch0) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch1) ↦{fullShare} f)
        ∗ semVal ((c : Thread nD τ), SemLoc.dma 7) 0 ∗ owes (c : Thread nD τ) 0 W
        ∗ (iprop(((st0_0 t0_0).view.loc (c : Thread nD τ) ↦{fullShare} x0) ∗ ((st0_1 t0_0).view.loc (c : Thread nD τ) ↦{fullShare} x1) ∗ ((st0_2 t0_0).view.loc (c : Thread nD τ) ↦{fullShare} x2)
            ∗ ((st0_3 t0_0).view.loc (c : Thread nD τ) ↦{fullShare} (wq.view.writes (Elt F) f3 (runOf c x0 x1 x2).1.1))
            ∗ ((st0_4 t0_0).view.loc (c : Thread nD τ) ↦{fullShare} (wi.view.writes (Elt F) f4 (runOf c x0 x1 x2).1.2.1))
            ∗ ((st0_5 t0_0).view.loc (c : Thread nD τ) ↦{fullShare} (wl.view.writes (Elt F) f5 (runOf c x0 x1 x2).1.2.2.1))
            ∗ ((st0_6 t0_0).view.loc (c : Thread nD τ) ↦{fullShare} (wv.view.writes (Elt F) f6 (runOf c x0 x1 x2).1.2.2.2))
            ∗ (∃ f, ((c : Thread nD τ).loc cc0_scratch0) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch1) ↦{fullShare} f)
            ∗ semVal ((c : Thread nD τ), SemLoc.dma 7) 0 ∗ (∃ W', owes (c : Thread nD τ) 0 W')) -∗ K ⟨⟩))
      ⊢ wp frame (wpE (defs₀ (F := F)) Variants.none c none) Set.univ (bodyAt0 t0_0) K :=
  (runOf c x0 x1 x2).2 W K f3 f4 f5 f6

set_option maxHeartbeats 1000000 in
/-- From what it needs, the body runs to what it leaves. -/
theorem sound_body (c : Dev nD) :
    bodyPre m c ⊢ wp frame (wpE (defs₀ (F := F)) Variants.none c none) Set.univ (bodyAt0 t0_0) (fun _ => bodyPost m c) := by
  unfold bodyPre bodyPost bodyAt0
  rw [show (dats m 0 c).Φ t0_0.succ = Pipeline.ΦD osem0 spec0 ∅ (Gen.V m) c from rfl,
    show (dats m 0 c).Φ t0_0.castSucc = Pipeline.ΦD osem0 spec0 ∅ (Gen.V m) c from rfl, Pipeline.ΦD_eq, scopedRest0_eq, ownSems00_eq]
  unfold Dat.owesAt Pipeline.owesWithin
  rw [show (dats m 0 c).owed t0_0.castSucc = 0 from rfl, show (dats m 0 c).owed t0_0.succ = 0 from rfl]
  rw [after_0, after_1, after_2, after_3, after_4, after_5, after_6]
  unfold owns
  rw [show (st0_0 t0_0).view.set = Finset.univ from View.set_whole cc0_stg0_0,
    show (st0_1 t0_0).view.set = Finset.univ from View.set_whole cc0_stg1_0,
    show (st0_2 t0_0).view.set = Finset.univ from View.set_whole cc0_stg2_0,
    show (st0_3 t0_0).view.set = Finset.univ from View.set_whole cc0_stg3_0,
    show (st0_4 t0_0).view.set = Finset.univ from View.set_whole cc0_stg4_0,
    show (st0_5 t0_0).view.set = Finset.univ from View.set_whole cc0_stg5_0,
    show (st0_6 t0_0).view.set = Finset.univ from View.set_whole cc0_stg6_0]
  iintro ⟨⟨⟨S0, S3, S4, S5, S1⟩, Hg, HS, Hh⟩, ⟨%W, -, HW⟩, ⟨%d0, %f0, %h0, H0⟩, ⟨%d1, %f1, %h1, H1⟩, ⟨%d2, %f2, %h2, H2⟩,
    ⟨%d3, %f3, %h3, H3⟩, ⟨%d4, %f4, %h4, H4⟩, ⟨%d5, %f5, %h5, H5⟩, ⟨%d6, %f6, %h6, H6⟩⟩
  rw [before_0] at h0
  rw [before_1] at h1
  rw [before_2] at h2
  have e0 : f0 = X0 m c := h0
  have e1 : f1 = X1 m c := h1
  have e2 : f2 = X2 m c := h2
  rw [e0, e1, e2]
  iapply (body_core c (X0 m c) (X1 m c) (X2 m c) W _ f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S3]; · iexact S3
  isplitl [S4]; · iexact S4
  isplitl [S5]; · iexact S5
  isplitl [S1]; · iexact S1
  isplitl [HS]; · iexact HS
  isplitl [HW]; · iexact HW
  iintro ⟨H0, H1, H2, H3, H4, H5, H6, S0, S3, S4, S5, S1, HS, ⟨%W', HW'⟩⟩
  isplitl [S0 S3 S4 S5 S1 Hg HS Hh]
  · isplitl [S0 S3 S4 S5 S1]
    · isplitl [S0]; · iexact S0
      isplitl [S3]; · iexact S3
      isplitl [S4]; · iexact S4
      isplitl [S5]; · iexact S5
      iexact S1
    isplitl [Hg]; · iexact Hg
    isplitl [HS]; · iexact HS
    iexact Hh
  isplitl [HW']
  · iexists W'; isplitr; · ipureintro; exact fun _ _ => Or.inl trivial
    iexact HW'
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact out3_spec c _ _ _ f3
  isplitl [H4]
  · iexists _; isplitr; swap; · iexact H4
    ipureintro; exact out4_spec c _ _ _ f4
  isplitl [H5]
  · iexists _; isplitr; swap; · iexact H5
    ipureintro; exact out5_spec c _ _ _ f5
  iexists _; isplitr; swap; · iexact H6
  ipureintro; exact out6_spec c _ _ _ f6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  obtain rfl := fin_N0 t
  rw [bigSep_W0, bigSep_W0, defs₀_row]
  exact triple_restated (sound_body m c) rfl .rfl fun _ => .rfl

/-! ## The run and the frame -/

set_option maxHeartbeats 800000 in
/-- The program around the region: the host lines before it, the region, the host lines after it. -/
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- Every run ends with the windows' arrays at the body's results, the later lines run on them, and every counter at zero. -/
theorem run_main : θ_run defs (onTc (τ := τ) (main (F := F))) (s₀ m ρ)
    (fun r => Pipeline.FramePost cfgs (dats m) 0 (Pipeline.afterTail₀ cfgs (dats m) 0 (Gen.V0 m) [hostOps1]) r ∧ r.2.sem = fun _ => 0) :=
  Pipeline.θ_run_frame_dma_around (Q' := _) cfgs (dats m) (0 : Fin 1) launch0 osem0 defs₀ Variants.none ownSemFacts0 ∅ (Finset.empty_subset _) m ρ main
    (hbody := fun c => (body_obligation m c).loose) (hshare := fun c => (dats m 0 c).share_full fun _ => rfl)
    (howed := fun _ _ => rfl) (V₀ := Gen.V0 m) (opss := [hostOps1])
    (hsub := by rw [Pipeline.tailRefsBut_empty]; exact sfx_sub) (hfresh := sfx_fresh) (hkeep := sfx_keeps)
    (hmain := hmain m Variants.none) (hA := A_eq m)
    (hin := fun _ => .rfl) (hout := fun _ => .rfl)

/-- No later host line writes the first argument. -/
theorem W_arg0 (c : Dev nD) :
    Pipeline.afterTail₀ cfgs (dats m) 0 (Gen.V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No later host line writes the second argument. -/
theorem W_arg1 (c : Dev nD) :
    Pipeline.afterTail₀ cfgs (dats m) 0 (Gen.V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The frame: every run ends, with both arguments as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Pipeline.mem_restRefs_of main_arg0 (by decide) (by decide))).trans (W_arg0 m c),
      ((h.1 c).2 main_arg1 (Pipeline.mem_restRefs_of main_arg1 (by decide) (by decide))).trans (W_arg1 m c)⟩, h.2⟩) (run_main m ρ)

end Cert.KernelIdeal.Hand

end
-- ==== Proof.RI.Frame.lean ====
/- The reference's frame: no operation of it writes an argument, and it has no counter. -/
module

public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- The operation writes neither argument. -/
structure Keeps (op : HloOp τ sig (Elt F)) : Prop where
  a0 : Proc.devRef .tc main_arg0 ∉ op.writes
  a1 : Proc.devRef .tc main_arg1 ∉ op.writes

/-- An operation that writes one buffer, neither of the arguments, keeps both. -/
theorem keeps_of {op : HloOp τ sig (Elt F)} {r : Ref sig .tc} (h : op.writes = {Proc.devRef (τ := τ) .tc r})
    (h0 : main_arg0 ≠ r) (h1 : main_arg1 ≠ r) : Keeps op := by
  constructor <;> rw [h, Finset.mem_singleton]
  · exact devRef_ne_of_ne h0
  · exact devRef_ne_of_ne h1

/-- The line writes neither argument. -/
def KeepsL (ops : List (HloOp τ sig (Elt F))) : Prop := ops.Forall Keeps

/-- A line that writes neither argument leaves both. -/
theorem KeepsL.after {ops : List (HloOp τ sig (Elt F))} (h : KeepsL ops) (V : Valuation τ sig (Elt F)) :
    after ops V (Proc.devRef .tc main_arg0) = V (Proc.devRef .tc main_arg0)
      ∧ after ops V (Proc.devRef .tc main_arg1) = V (Proc.devRef .tc main_arg1) :=
  ⟨after_of_forall_not_mem ops V fun op ho => (List.forall_iff_forall_mem.mp h op ho).a0,
    after_of_forall_not_mem ops V fun op ho => (List.forall_iff_forall_mem.mp h op ho).a1⟩

/-- Lines of which none writes an argument leave both. -/
theorem keeps_afterL : ∀ (items : List (List (HloOp τ sig (Elt F)))), items.Forall KeepsL → ∀ V : Valuation τ sig (Elt F),
    afterL items V (Proc.devRef .tc main_arg0) = V (Proc.devRef .tc main_arg0)
      ∧ afterL items V (Proc.devRef .tc main_arg1) = V (Proc.devRef .tc main_arg1)
  | [], _, _ => ⟨rfl, rfl⟩
  | ops :: rest, h, V => by
    have hl := List.forall_iff_forall_mem.mp h
    have h1 := (hl ops List.mem_cons_self).after V
    have h2 := keeps_afterL rest (List.forall_iff_forall_mem.mpr fun o ho => hl o (List.mem_cons_of_mem _ ho)) (after ops V)
    rw [afterL_cons]
    exact ⟨h2.1.trans h1.1, h2.2.trans h1.2⟩

theorem keeps_cond : KeepsL (condOps : List (HloOp τ sig (Elt F))) := by
  simp only [KeepsL, List.Forall]
  repeat' apply And.intro
  all_goals (refine keeps_of rfl ?_ ?_ <;> decide)
theorem keeps_pre : (preI : List (List (HloOp τ sig (Elt F)))).Forall KeepsL := by
  simp only [KeepsL, List.Forall]
  repeat' apply And.intro
  all_goals (refine keeps_of rfl ?_ ?_ <;> decide)
theorem keeps_body : (bodyI : List (List (HloOp τ sig (Elt F)))).Forall KeepsL := by
  simp only [KeepsL, List.Forall]
  repeat' apply And.intro
  all_goals (refine keeps_of rfl ?_ ?_ <;> decide)
theorem keeps_post : (postI : List (List (HloOp τ sig (Elt F)))).Forall KeepsL := by
  simp only [KeepsL, List.Forall]
  repeat' apply And.intro
  all_goals (refine keeps_of rfl ?_ ?_ <;> decide)

variable (m : (ℓ : Loc nD τ sig) → Buf (Elt F) ℓ) (ρ : Dev nD → PrngReg)

/-- Before every test of the loop both arguments are as launched. -/
theorem keeps_atK (c : Dev nD) : ∀ k, atK m k c (Proc.devRef .tc main_arg0) = m ((c.tc : Thread nD τ).loc main_arg0)
      ∧ atK m k c (Proc.devRef .tc main_arg1) = m ((c.tc : Thread nD τ).loc main_arg1)
  | 0 => keeps_afterL _ keeps_pre _
  | k + 1 => by
    have h1 := keeps_cond.after (atK m k c)
    have h2 := keeps_afterL _ keeps_body (after condOps (atK m k c))
    have h3 := keeps_atK c k
    exact ⟨h2.1.trans (h1.1.trans h3.1), h2.2.trans (h1.2.trans h3.2)⟩

/-- At the end both arguments are as launched. -/
theorem keeps_final (c : Dev nD) : finalContents condOps preI bodyI postI 255 m c (Proc.devRef .tc main_arg0) = m ((c.tc : Thread nD τ).loc main_arg0)
      ∧ finalContents condOps preI bodyI postI 255 m c (Proc.devRef .tc main_arg1) = m ((c.tc : Thread nD τ).loc main_arg1) := by
  have h1 := keeps_cond.after (atK m 255 c)
  have h2 := keeps_afterL _ keeps_post (after condOps (atK m 255 c))
  have h3 := keeps_atK m c 255
  exact ⟨h2.1.trans (h1.1.trans h3.1), h2.2.trans (h1.2.trans h3.2)⟩

/-- The frame: every run ends, with both arguments as they began and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 rfl).trans (keeps_final m c).1, (h c main_arg1 rfl).trans (keeps_final m c).2⟩,
    sem_eq_zero_of_no_sems rfl r.2⟩) (run_fold m ρ)

end Cert.ReferenceIdeal.Hand

end
-- ==== Proof.Finite.lean ====
/- What the precondition says: every entry of both arguments is a real number. -/
module

public import proofs.«01_k».proof.Pre_finite
public import Idealize.ShloMosaic.Lib.Pointwise
public import Idealize.ShloMosaic.Lib.ReduceAll

@[expose] public section

set_option maxRecDepth 16384

noncomputable section

namespace Cert.Finite

open Cert.Pre_finite Idealize.ShloMosaic

/-- The side conditions the precondition states. -/
theorem facts : Cert.Pre_finite.Facts where
  bcast_S_S4x256x32 := by decide
  reducesTo_S4x256x32_S_d0_1_2 := by decide
  h_S_ := by decide
  bcast_S_S8193x32 := by decide
  reducesTo_S8193x32_S_d0_1 := by decide

theorem inf_top : Ideal.ofBits FTy.f32 0x7F800000#32 = ⊤ := by
  simp [Ideal.ofBits, Ideal.ieee]

/-- Strictly between the infinities lies a real number. -/
theorem real_of_tests (x : EReal)
    (h : IntOp.andi (Ideal.cmp CmpFPredicate.olt x (Ideal.ofBits FTy.f32 0x7F800000#32)) (Ideal.cmp CmpFPredicate.ogt x (-(Ideal.ofBits FTy.f32 0x7F800000#32))) = 1#1) :
    ∃ r : ℝ, x = r := by
  obtain ⟨h1, h2⟩ := IntOp.andi_eq_one.1 h
  rw [inf_top] at h1 h2
  induction x using EReal.rec with
  | bot => simp [Ideal.cmp] at h2
  | coe r => exact ⟨r, rfl⟩
  | top => simp [Ideal.cmp] at h1

theorem real_of_pre [Cert.Pre_finite.Facts] (a0 : FVec Ideal S4x256x32 .f32) (a1 : FVec Ideal S8193x32 .f32) (h : fn a0 a1 = fun _ => 1#1) :
    (∀ i, ∃ r : ℝ, a0 i = r) ∧ ∀ i, ∃ r : ℝ, a1 i = r := by
  haveI : Subsingleton S_.Idx := ⟨fun a b => funext fun i => i.elim0⟩
  obtain ⟨h0, h1⟩ := IntOp.andi_eq_one.1 (congrFun h ix0)
  exact ⟨fun i => real_of_tests _ (Host.reduce_andi_all _ _ _ _ ix0 h0 i), fun i => real_of_tests _ (Host.reduce_andi_all _ _ _ _ ix0 h1 i)⟩

end Cert.Finite

end
-- ==== Proof.KI.Steps.lean ====
/- The kernel's integer stages, one step at a time: the displacement of a group, the jump from one group's
   start to the next, and the code of one time step, each read at an index. -/
module

public import proofs.«01_k».proof.Proof.KI.Body
public import Idealize.ShloMosaic.Lib.Pointwise
public import Idealize.ShloMosaic.Lib.Pipeline.CanonAppend
public import Mathlib.Data.BitVec

@[expose] public section

set_option maxRecDepth 16384

noncomputable section

namespace Cert.KernelIdeal.Hand

open Cert.KernelIdeal Cert.KernelIdeal.Gen Idealize.ShloMosaic
open kernelRun.sl

/-! ## The path, in natural numbers -/

/-- Follow the unit jumps `A t` for `n` steps from time `t` and offset `w`. -/
noncomputable def walk (A : ℕ → ℕ → ℕ) (t w : ℕ) : ℕ → ℕ
  | 0 => w
  | n + 1 => walk A t w n + A (t + n) (walk A t w n)

theorem walk_succ (A : ℕ → ℕ → ℕ) (t w n : ℕ) : walk A t w (n + 1) = walk A t w n + A (t + n) (walk A t w n) := rfl

theorem walk_add (A : ℕ → ℕ → ℕ) (t w m n : ℕ) : walk A t w (m + n) = walk A (t + m) (walk A t w m) n := by
  induction n with
  | zero => rfl
  | succ n ih => rw [← Nat.add_assoc, walk_succ, walk_succ, ih, Nat.add_assoc]

theorem walk_le (A : ℕ → ℕ → ℕ) (hA : ∀ t w, A t w ≤ 1) (t w n : ℕ) : walk A t w n ≤ w + n := by
  induction n with
  | zero => exact le_rfl
  | succ n ih => rw [walk_succ]; have := hA (t + n) (walk A t w n); omega

theorem le_walk (A : ℕ → ℕ → ℕ) (t w n : ℕ) : w ≤ walk A t w n := by
  induction n with
  | zero => exact le_rfl
  | succ n ih => rw [walk_succ]; omega

/-! ## Comparisons of small words -/

theorem select_eq_ofNat (m n : ℕ) (hm : m < 2 ^ 32) (hn : n < 2 ^ 32) (x y : BitVec 32) :
    Scalar.select (IntOp.cmpi CmpIPredicate.eq (BitVec.ofNat 32 m) (BitVec.ofNat 32 n)) x y = if m = n then x else y := by
  have h : (BitVec.ofNat 32 m = BitVec.ofNat 32 n) ↔ m = n := by
    constructor
    · intro h
      have := congrArg BitVec.toNat h
      rw [BitVec.toNat_ofNat, BitVec.toNat_ofNat, Nat.mod_eq_of_lt hm, Nat.mod_eq_of_lt hn] at this
      exact this
    · intro h; rw [h]
  by_cases e : m = n
  · subst e; simp [Scalar.select, IntOp.cmpi]
  · rw [if_neg e]
    have : ¬ (BitVec.ofNat 32 m = BitVec.ofNat 32 n) := fun q => e (h.mp q)
    have hb : (BitVec.ofNat 32 m == BitVec.ofNat 32 n) = false := beq_eq_false_iff_ne.mpr this
    simp only [Scalar.select, IntOp.cmpi, hb]; rfl

theorem fold_addi_eq_sum {ι : Type} [Fintype ι] (f : ι → BitVec 32) :
    Finset.fold IntOp.addi (0#32) f Finset.univ = ∑ i, f i := by
  classical
  have : ∀ S : Finset ι, Finset.fold IntOp.addi (0#32) f S = ∑ i ∈ S, f i := by
    intro S
    induction S using Finset.induction_on with
    | empty => rfl
    | insert a S ha ih => rw [Finset.fold_insert ha, Finset.sum_insert ha, ih]; rfl
  exact this _

/-- The one lane of a row that equals `n`, picked out of `X` by a sum. -/
theorem sum_pick (n : ℕ) (hn : n < 384) (X : Fin 384 → BitVec 32) :
    ∑ k : Fin 384, Scalar.select (IntOp.cmpi CmpIPredicate.eq (BitVec.ofNat 32 k.val) (BitVec.ofNat 32 n)) (X k) 0#32
      = X ⟨n, hn⟩ := by
  rw [Finset.sum_eq_single (⟨n, hn⟩ : Fin 384)]
  · rw [select_eq_ofNat _ _ (by omega) (by omega), if_pos rfl]
  · intro k _ hk
    rw [select_eq_ofNat _ _ (by have := k.isLt; omega) (by omega), if_neg]
    · rfl
    · intro e; exact hk (Fin.ext e)
  · intro h; exact absurd (Finset.mem_univ _) h

/-! ## One step of a group's displacement -/

/-- What step `s` adds to the displacements `dsp`: the jump `a` at the lane moved by the displacement, tried for
    the displacements `0, …, k`. -/
noncomputable def accT (dsp a : S16x4x384.Idx → BitVec 32) (h : S16x4x384.Rotates 2 none) : ℕ → (S16x4x384.Idx → BitVec 32)
  | 0 => select (cmpi .eq dsp v259) a v259
  | k + 1 => addi (accT dsp a h k)
      (select (cmpi .eq dsp (broadcast S16x4x384 (BitVec.ofNat 32 (k + 1))))
        (dynamicRotate 2 (BitVec.ofNat 32 (384 - (k + 1))) none a h) v259)

/-- The displacements after a step. -/
noncomputable def stepT (dsp a : S16x4x384.Idx → BitVec 32) (h : S16x4x384.Rotates 2 none) (s : ℕ) : S16x4x384.Idx → BitVec 32 :=
  addi dsp (accT dsp a h s)

theorem accT_apply (dsp a : S16x4x384.Idx → BitVec 32) (h) (k : ℕ) (hk : k < 100) (g : Fin 16) (b : Fin 4) (w d : ℕ)
    (hd : d ≤ 100) (hw : w + 100 < 384)
    (e : dsp (ix3 g b (⟨w, by omega⟩ : Fin 384)) = BitVec.ofNat 32 d) :
    accT dsp a h k (ix3 g b (⟨w, by omega⟩ : Fin 384)) = if d ≤ k then a (ix3 g b (⟨w + d, by omega⟩ : Fin 384)) else 0#32 := by
  induction k with
  | zero =>
    unfold accT v259
    pointwise
    rw [e, select_eq_ofNat d 0 (by omega) (by omega)]
    by_cases h0 : d = 0
    · subst h0; simp
    · rw [if_neg h0, if_neg (by omega)]
  | succ k ih =>
    unfold accT v259
    pointwise
    rw [e, ih (by omega) e, select_eq_ofNat d (k + 1) (by omega) (by omega)]
    have hb : (BitVec.ofNat 32 (384 - (k + 1))).toNat = 384 - (k + 1) := by
      rw [BitVec.toNat_ofNat, Nat.mod_eq_of_lt (by omega)]
    by_cases h1 : d ≤ k
    · rw [if_pos h1, if_neg (by omega), if_pos (by omega)]; exact BitVec.add_zero _
    · rw [if_neg h1]
      by_cases h2 : d = k + 1
      · subst h2
        rw [if_pos rfl, if_pos le_rfl]
        refine (BitVec.zero_add _).trans (congrArg a ?_)
        congr 1
        refine Fin.ext ?_
        show (w + 384 - _ % 384) % 384 = w + (k + 1)
        rw [hb, Nat.mod_eq_of_lt (show 384 - (k + 1) < 384 by omega)]
        omega
      · rw [if_neg h2, if_neg (by omega)]; rfl

/-- A step follows the path once more. -/
theorem stepT_apply (dsp a : S16x4x384.Idx → BitVec 32) (h) (s : ℕ) (hs : s < 100) (g : Fin 16) (b : Fin 4)
    (A : ℕ → ℕ → ℕ) (hA : ∀ t w, A t w ≤ 1) (t w : ℕ) (hw : w + 100 < 384)
    (e : dsp (ix3 g b (⟨w, by omega⟩ : Fin 384)) = BitVec.ofNat 32 (walk A t w s - w))
    (ea : ∀ v (hv : v < 384), a (ix3 g b (⟨v, hv⟩ : Fin 384)) = BitVec.ofNat 32 (A (t + s) v)) :
    stepT dsp a h s (ix3 g b (⟨w, by omega⟩ : Fin 384)) = BitVec.ofNat 32 (walk A t w (s + 1) - w) := by
  have hl := walk_le A hA t w s
  have hg := le_walk A t w s
  unfold stepT
  pointwise
  rw [accT_apply dsp a h s hs g b w (walk A t w s - w) (by omega) hw e, if_pos (by omega), ea, e, walk_succ]
  have e1 : w + (walk A t w s - w) = walk A t w s := by omega
  rw [e1]
  show BitVec.ofNat 32 _ + BitVec.ofNat 32 _ = _
  rw [← BitVec.ofNat_add]
  congr 1
  omega

/-! ## From one group's start to the next, and one time step -/

/-- The start of the next group. -/
noncomputable def jumpT (r : S4x1.Idx → BitVec 32) (X : S4x384.Idx → BitVec 32) (h1 : S4x1.Broadcasts S4x384) (h2 : S4x384.Reduces [1] S4)
    (h3 : 0#32 = IKind.add.neutral) (h4 : S4.ShapeCasts S4x1) : S4x1.Idx → BitVec 32 :=
  addi r (shapeCast S4x1 (multiReductionI .add [1] S4 (select (cmpi .eq v159 (broadcastTo S4x384 r h1)) X v1089) 0#32 h2 h3) h4)

theorem jumpT_apply (r : S4x1.Idx → BitVec 32) (X : S4x384.Idx → BitVec 32) (h1 h2 h3 h4) (b : Fin 4) (n : ℕ)
    (hn : n < 384) (e : r (ix2 b (0 : Fin 1)) = BitVec.ofNat 32 n) :
    jumpT r X h1 h2 h3 h4 (ix2 b (0 : Fin 1)) = BitVec.ofNat 32 n + X (ix2 b (⟨n, hn⟩ : Fin 384)) := by
  unfold jumpT v159 v1089
  pointwise
  rw [fold_addi_eq_sum]
  have := sum_pick n hn (fun k => X (ix2 b k))
  rw [e]
  exact congrArg (BitVec.ofNat 32 n + ·) this

/-- The codes after one more time step. -/
noncomputable def codeT (r : S16x4.Idx → BitVec 32) (a : S16x4x384.Idx → BitVec 32) (h1 : S16x4.ShapeCasts S16x4x1) (h2 : S16x4x1.Broadcasts S16x4x384)
    (h3 : S16x4x384.Reduces [2] S16x4) (h4 : 0#32 = IKind.add.neutral) : S16x4.Idx → BitVec 32 :=
  addi r (multiReductionI .add [2] S16x4 (select (cmpi .eq v1082 (broadcastTo S16x4x384 (shapeCast S16x4x1 r h1) h2)) a v259) 0#32 h3 h4)

theorem codeT_apply (r : S16x4.Idx → BitVec 32) (a : S16x4x384.Idx → BitVec 32) (h1 h2 h3 h4) (g : Fin 16) (b : Fin 4) (n : ℕ)
    (hn : n < 384) (e : r (ix2 g b) = BitVec.ofNat 32 n) :
    codeT r a h1 h2 h3 h4 (ix2 g b) = BitVec.ofNat 32 n + a (ix3 g b (⟨n, hn⟩ : Fin 384)) := by
  unfold codeT v1082 v259
  pointwise
  rw [fold_addi_eq_sum]
  have := sum_pick n hn (fun k => a (ix3 g b k))
  rw [e]
  exact congrArg (BitVec.ofNat 32 n + ·) this

end Cert.KernelIdeal.Hand
-- ==== Proof.KI.Chain.lean ====
/- The kernel's codes: its integer stages put together. With the jumps `A` the first stage leaves, the code of
   row `b` at time `t` is the path's position after `t + 1` steps. -/
module

public import proofs.«01_k».proof.Proof.KI.Steps

@[expose] public section

set_option maxRecDepth 16384

noncomputable section

namespace Cert.KernelIdeal.Hand

open Cert.KernelIdeal Cert.KernelIdeal.Gen Idealize.ShloMosaic
open kernelRun.sl

variable {F : FTy → Type} [FloatOps F] (x0 : Vec F S1024x32 .f32) (x1 : Vec F S9216x32 .f32) (w : Vec F S4x1 .i32)
  (hw : ∀ i, (w i).toNat ≤ 8191)

/-- Pieces that all agree with one whole array read as that array wherever one of them reaches. -/
theorem canon_of_pieces {S : Shape} {e : EltTy} {Val : EltTy → Type} [∀ e, Nonempty (Val e)] (G : S.Idx → Val e)
    (L : List (View.Piece Val S e)) (h : ∀ p ∈ L, ∀ x : p.1.shape.Idx, p.2 x = G (p.1.emb x)) (y : S.Idx)
    (hy : ∃ p ∈ L, y ∈ p.1.set) : View.canon L y = G y := by
  have := View.canon_append_of_pieces G [] L h y hy
  rwa [List.append_nil] at this

/-! ## The jumps, stored group by group and loaded step by step -/

theorem slab_inb (g : Fin 16) : ∀ a, (![0, 15 - g.val, 0, 0] : Fin 4 → ℕ) a + S16x1x4x384.size a ≤ S16x16x4x384.size a := by
  intro a
  have := g.isLt
  fin_cases a <;> simp <;> omega

theorem slab_sl (g : Fin 16) : S16x16x4x384.Slices ![15 - g.val, 0, 0, 0] S1x16x4x384 := by
  revert g; decide

theorem time_lt (g s : Fin 16) : g.val * 16 + s.val < 256 := by omega

theorem sc_all : S256x4x384.ShapeCasts S16x16x4x384 := by decide
theorem sc_row : S1x16x4x384.ShapeCasts S16x4x384 := by decide
theorem sc_put : S16x4x384.ShapeCasts S16x1x4x384 := by decide

/-- The jumps by step, group, row and lane. -/
noncomputable def slabs (V : S256x4x384.Idx → BitVec 32) : S16x16x4x384.Idx → BitVec 32 := fun y =>
  V (ix3 (⟨(y 1).val * 16 + (y 0).val, time_lt (y 1) (y 0)⟩ : Fin 256) (y 2) (y 3))

/-- What group `15 - g` stores. -/
noncomputable def slabPiece (V : S256x4x384.Idx → BitVec 32) (g : Fin 16) : S16x1x4x384.Idx → BitVec 32 :=
  shapeCast S16x1x4x384 (shapeCast S16x4x384 (extractStridedSlice S1x16x4x384 ![15 - g.val, 0, 0, 0]
    (shapeCast S16x16x4x384 V sc_all) (slab_sl g)) sc_row) sc_put

theorem slabPiece_apply (V : S256x4x384.Idx → BitVec 32) (g : Fin 16) (x : S16x1x4x384.Idx) :
    slabPiece V g x = slabs V ((Rect.unit (s := S16x16x4x384) ![0, 15 - g.val, 0, 0] S16x1x4x384.size (slab_inb g)).emb x) := by
  unfold slabPiece slabs
  have h1 : (x 1).val = 0 := by have : (x 1).val < 1 := (x 1).isLt; omega
  pointwise
  refine congrArg V ?_
  funext a
  fin_cases a <;> refine Fin.ext ?_ <;> simp [h1] <;> rfl

theorem G4_eq : G4_16 x0 x1 w hw = List.ofFn fun g : Fin 16 =>
    (⟨Rect.unit (s := S16x16x4x384) ![0, 15 - g.val, 0, 0] S16x1x4x384.size (slab_inb g), slabPiece (v173 x0 x1 w hw) g⟩ :
      View.Piece (Elt F) S16x16x4x384 .i32) := rfl

theorem G4_canon (y : S16x16x4x384.Idx) : View.canon (G4_16 x0 x1 w hw) y = slabs (v173 x0 x1 w hw) y := by
  rw [G4_eq]
  refine canon_of_pieces (e := .i32) (Val := Elt F) (slabs (v173 x0 x1 w hw)) _ ?_ y ?_
  · intro p hp x
    obtain ⟨g, rfl⟩ := (List.mem_ofFn' _ _).mp hp
    exact slabPiece_apply (v173 x0 x1 w hw) g x
  · have h1 : (y 1).val < 16 := (y 1).isLt
    refine ⟨_, (List.mem_ofFn' _ _).mpr ⟨⟨15 - (y 1).val, by omega⟩, rfl⟩, ?_⟩
    refine (LoadRect.mem_set _).mpr fun a => ?_
    fin_cases a
    · exact ⟨(y 0).val, (y 0).isLt, by simp [Rect.unit]⟩
    · exact ⟨0, Nat.one_pos, by simp [Rect.unit]; omega⟩
    · exact ⟨(y 2).val, (y 2).isLt, by simp [Rect.unit]⟩
    · exact ⟨(y 3).val, (y 3).isLt, by simp [Rect.unit]⟩

theorem drop_front (f : S1x16x4x384.Idx → BitVec 32) (g : Fin 16) (b : Fin 4) (k : Fin 384) :
    shapeCast S16x4x384 f sc_row (ix3 g b k) = f (ix4 (0 : Fin 1) g b k) := by
  pointwise

theorem load_slab (V : S256x4x384.Idx → BitVec 32) (s : ℕ) (hs : s < 16)
    (inb : ∀ a, (![s, 0, 0, 0] : Fin 4 → ℕ) a + S1x16x4x384.size a ≤ S16x16x4x384.size a) (g : Fin 16) (b : Fin 4) (k : Fin 384) :
    shapeCast S16x4x384 (fun j : S1x16x4x384.Idx => slabs V ((Rect.unit (s := S16x16x4x384) ![s, 0, 0, 0] S1x16x4x384.size inb).toLoadRect.idx j))
      sc_row (ix3 g b k) = V (ix3 (⟨g.val * 16 + s, by omega⟩ : Fin 256) b k) := by
  rw [drop_front]
  unfold slabs
  refine congrArg V ?_
  funext a
  fin_cases a <;> refine Fin.ext ?_ <;> simp [Rect.unit]

/-- A load of step `s`'s jumps. -/
noncomputable def slabT (s : ℕ) (inb : ∀ a, (![s, 0, 0, 0] : Fin 4 → ℕ) a + S1x16x4x384.size a ≤ S16x16x4x384.size a) : S16x4x384.Idx → BitVec 32 :=
  shapeCast S16x4x384 ((Memref.whole cc0_scratch4).view.readCov (G4_16 x0 x1 w hw)
    (Rect.unit (s := S16x16x4x384) ![s, 0, 0, 0] S1x16x4x384.size inb).toLoadRect) sc_row

theorem slabT_apply (s : ℕ) (hs : s < 16) (inb) (g : Fin 16) (b : Fin 4) (k : Fin 384) :
    slabT x0 x1 w hw s inb (ix3 g b k) = v173 x0 x1 w hw (ix3 (⟨g.val * 16 + s, by omega⟩ : Fin 256) b k) := by
  have e : (Memref.whole cc0_scratch4).view.readCov (G4_16 x0 x1 w hw)
      (Rect.unit (s := S16x16x4x384) ![s, 0, 0, 0] S1x16x4x384.size inb).toLoadRect
      = fun j => slabs (v173 x0 x1 w hw) ((Rect.unit (s := S16x16x4x384) ![s, 0, 0, 0] S1x16x4x384.size inb).toLoadRect.idx j) := by
    rw [View.readCov_eq_canon']
    exact funext fun j => G4_canon x0 x1 w hw _
  unfold slabT
  rw [e]
  generalize v173 x0 x1 w hw = V
  exact load_slab V s hs inb g b k

/-- Step `s`'s jumps, by group, row and lane. -/
noncomputable def slabV (V : S256x4x384.Idx → BitVec 32) (s : ℕ) : S16x4x384.Idx → BitVec 32 := fun j =>
  V (ix3 (⟨((j 0).val * 16 + s) % 256, Nat.mod_lt _ (by decide)⟩ : Fin 256) (j 1) (j 2))

theorem slabV_apply (V : S256x4x384.Idx → BitVec 32) (s : ℕ) (hs : s < 16) (g : Fin 16) (b : Fin 4) (k : Fin 384) :
    slabV V s (ix3 g b k) = V (ix3 (⟨g.val * 16 + s, by omega⟩ : Fin 256) b k) := by
  unfold slabV
  refine congrArg V ?_
  have h : (g.val * 16 + s) % 256 = g.val * 16 + s := Nat.mod_eq_of_lt (by omega)
  funext a
  fin_cases a
  · exact Fin.ext h
  · rfl
  · rfl

theorem idx3_eq {n0 n1 n2 : ℕ} (j : (⟨3, ![n0, n1, n2]⟩ : Shape).Idx) : j = ix3 (j 0 : Fin n0) (j 1 : Fin n1) (j 2 : Fin n2) := by
  funext a; fin_cases a <;> rfl

theorem slabT_eq (s : ℕ) (hs : s < 16) (inb) : slabT x0 x1 w hw s inb = slabV (v173 x0 x1 w hw) s := by
  funext j
  rw [idx3_eq j]
  exact (slabT_apply x0 x1 w hw s hs inb _ _ _).trans (slabV_apply _ s hs _ _ _).symm

theorem v256_eq : v256 x0 x1 w hw = slabV (v173 x0 x1 w hw) 0 := slabT_eq x0 x1 w hw 0 (by decide) _
theorem v258_eq : v258 x0 x1 w hw = slabV (v173 x0 x1 w hw) 1 := slabT_eq x0 x1 w hw 1 (by decide) _
theorem v271_eq : v271 x0 x1 w hw = slabV (v173 x0 x1 w hw) 2 := slabT_eq x0 x1 w hw 2 (by decide) _
theorem v290_eq : v290 x0 x1 w hw = slabV (v173 x0 x1 w hw) 3 := slabT_eq x0 x1 w hw 3 (by decide) _
theorem v315_eq : v315 x0 x1 w hw = slabV (v173 x0 x1 w hw) 4 := slabT_eq x0 x1 w hw 4 (by decide) _
theorem v346_eq : v346 x0 x1 w hw = slabV (v173 x0 x1 w hw) 5 := slabT_eq x0 x1 w hw 5 (by decide) _
theorem v383_eq : v383 x0 x1 w hw = slabV (v173 x0 x1 w hw) 6 := slabT_eq x0 x1 w hw 6 (by decide) _
theorem v426_eq : v426 x0 x1 w hw = slabV (v173 x0 x1 w hw) 7 := slabT_eq x0 x1 w hw 7 (by decide) _
theorem v475_eq : v475 x0 x1 w hw = slabV (v173 x0 x1 w hw) 8 := slabT_eq x0 x1 w hw 8 (by decide) _
theorem v530_eq : v530 x0 x1 w hw = slabV (v173 x0 x1 w hw) 9 := slabT_eq x0 x1 w hw 9 (by decide) _
theorem v591_eq : v591 x0 x1 w hw = slabV (v173 x0 x1 w hw) 10 := slabT_eq x0 x1 w hw 10 (by decide) _
theorem v658_eq : v658 x0 x1 w hw = slabV (v173 x0 x1 w hw) 11 := slabT_eq x0 x1 w hw 11 (by decide) _
theorem v731_eq : v731 x0 x1 w hw = slabV (v173 x0 x1 w hw) 12 := slabT_eq x0 x1 w hw 12 (by decide) _
theorem v810_eq : v810 x0 x1 w hw = slabV (v173 x0 x1 w hw) 13 := slabT_eq x0 x1 w hw 13 (by decide) _
theorem v895_eq : v895 x0 x1 w hw = slabV (v173 x0 x1 w hw) 14 := slabT_eq x0 x1 w hw 14 (by decide) _
theorem v986_eq : v986 x0 x1 w hw = slabV (v173 x0 x1 w hw) 15 := slabT_eq x0 x1 w hw 15 (by decide) _

/-! ## The displacements -/

theorem rot_ok : S16x4x384.Rotates 2 none := by decide

/-- The displacements after steps `0, …, s`. -/
noncomputable def dspT (V : S256x4x384.Idx → BitVec 32) : ℕ → (S16x4x384.Idx → BitVec 32)
  | 0 => slabV V 0
  | s + 1 => stepT (dspT V s) (slabV V (s + 1)) rot_ok (s + 1)

theorem dsp_next {V : S256x4x384.Idx → BitVec 32} {D a E : S16x4x384.Idx → BitVec 32} {s : ℕ} (hD : D = dspT V s)
    (ha : a = slabV V (s + 1)) (hE : E = stepT D a rot_ok (s + 1)) : E = dspT V (s + 1) := by
  subst hD ha hE; rfl

theorem v269_eq : v269 x0 x1 w hw = dspT (v173 x0 x1 w hw) 1 := dsp_next (v256_eq x0 x1 w hw) (v258_eq x0 x1 w hw) rfl
theorem v288_eq : v288 x0 x1 w hw = dspT (v173 x0 x1 w hw) 2 := dsp_next (v269_eq x0 x1 w hw) (v271_eq x0 x1 w hw) rfl
theorem v313_eq : v313 x0 x1 w hw = dspT (v173 x0 x1 w hw) 3 := dsp_next (v288_eq x0 x1 w hw) (v290_eq x0 x1 w hw) rfl
theorem v344_eq : v344 x0 x1 w hw = dspT (v173 x0 x1 w hw) 4 := dsp_next (v313_eq x0 x1 w hw) (v315_eq x0 x1 w hw) rfl
theorem v381_eq : v381 x0 x1 w hw = dspT (v173 x0 x1 w hw) 5 := dsp_next (v344_eq x0 x1 w hw) (v346_eq x0 x1 w hw) rfl
theorem v424_eq : v424 x0 x1 w hw = dspT (v173 x0 x1 w hw) 6 := dsp_next (v381_eq x0 x1 w hw) (v383_eq x0 x1 w hw) rfl
theorem v473_eq : v473 x0 x1 w hw = dspT (v173 x0 x1 w hw) 7 := dsp_next (v424_eq x0 x1 w hw) (v426_eq x0 x1 w hw) rfl
theorem v528_eq : v528 x0 x1 w hw = dspT (v173 x0 x1 w hw) 8 := dsp_next (v473_eq x0 x1 w hw) (v475_eq x0 x1 w hw) rfl
theorem v589_eq : v589 x0 x1 w hw = dspT (v173 x0 x1 w hw) 9 := dsp_next (v528_eq x0 x1 w hw) (v530_eq x0 x1 w hw) rfl
theorem v656_eq : v656 x0 x1 w hw = dspT (v173 x0 x1 w hw) 10 := dsp_next (v589_eq x0 x1 w hw) (v591_eq x0 x1 w hw) rfl
theorem v729_eq : v729 x0 x1 w hw = dspT (v173 x0 x1 w hw) 11 := dsp_next (v656_eq x0 x1 w hw) (v658_eq x0 x1 w hw) rfl
theorem v808_eq : v808 x0 x1 w hw = dspT (v173 x0 x1 w hw) 12 := dsp_next (v729_eq x0 x1 w hw) (v731_eq x0 x1 w hw) rfl
theorem v893_eq : v893 x0 x1 w hw = dspT (v173 x0 x1 w hw) 13 := dsp_next (v808_eq x0 x1 w hw) (v810_eq x0 x1 w hw) rfl
theorem v984_eq : v984 x0 x1 w hw = dspT (v173 x0 x1 w hw) 14 := dsp_next (v893_eq x0 x1 w hw) (v895_eq x0 x1 w hw) rfl
theorem v1081_eq : v1081 x0 x1 w hw = dspT (v173 x0 x1 w hw) 15 := dsp_next (v984_eq x0 x1 w hw) (v986_eq x0 x1 w hw) rfl

/-! ## The groups' starts -/

theorem row_sl (g : Fin 16) : S16x4x384.Slices ![g.val, 0, 0] S1x4x384 := by revert g; decide
theorem row_sc : S1x4x384.ShapeCasts S4x384 := by decide
theorem col_bc : S4x1.Broadcasts S4x384 := by decide
theorem row_red : S4x384.Reduces [1] S4 := by decide
theorem row_col : S4.ShapeCasts S4x1 := by decide

/-- One group's displacements. -/
noncomputable def rowT (D : S16x4x384.Idx → BitVec 32) (g : Fin 16) : S4x384.Idx → BitVec 32 :=
  shapeCast S4x384 (extractStridedSlice S1x4x384 ![g.val, 0, 0] D (row_sl g)) row_sc

theorem rowT_apply (D : S16x4x384.Idx → BitVec 32) (g : Fin 16) (b : Fin 4) (k : Fin 384) : rowT D g (ix2 b k) = D (ix3 g b k) := by
  unfold rowT
  pointwise

/-- Where group `g` starts. -/
noncomputable def startT (D : S16x4x384.Idx → BitVec 32) : ℕ → (S4x1.Idx → BitVec 32)
  | 0 => v1083
  | g + 1 => jumpT (startT D g) (rowT D ⟨g % 16, Nat.mod_lt _ (by decide)⟩) col_bc row_red rfl row_col

theorem start_next {D : S16x4x384.Idx → BitVec 32} {r r' : S4x1.Idx → BitVec 32} {g : ℕ} (hr : r = startT D g)
    (hr' : r' = jumpT r (rowT D ⟨g % 16, Nat.mod_lt _ (by decide)⟩) col_bc row_red rfl row_col) : r' = startT D (g + 1) := by
  subst hr hr'; rfl

theorem v1083_eq (D : S16x4x384.Idx → BitVec 32) : v1083 = startT D 0 := rfl
theorem v1093_eq : v1093 x0 x1 w hw = startT (v1081 x0 x1 w hw) 1 := start_next (v1083_eq _) rfl
theorem v1103_eq : v1103 x0 x1 w hw = startT (v1081 x0 x1 w hw) 2 := start_next (v1093_eq x0 x1 w hw) rfl
theorem v1113_eq : v1113 x0 x1 w hw = startT (v1081 x0 x1 w hw) 3 := start_next (v1103_eq x0 x1 w hw) rfl
theorem v1123_eq : v1123 x0 x1 w hw = startT (v1081 x0 x1 w hw) 4 := start_next (v1113_eq x0 x1 w hw) rfl
theorem v1133_eq : v1133 x0 x1 w hw = startT (v1081 x0 x1 w hw) 5 := start_next (v1123_eq x0 x1 w hw) rfl
theorem v1143_eq : v1143 x0 x1 w hw = startT (v1081 x0 x1 w hw) 6 := start_next (v1133_eq x0 x1 w hw) rfl
theorem v1153_eq : v1153 x0 x1 w hw = startT (v1081 x0 x1 w hw) 7 := start_next (v1143_eq x0 x1 w hw) rfl
theorem v1163_eq : v1163 x0 x1 w hw = startT (v1081 x0 x1 w hw) 8 := start_next (v1153_eq x0 x1 w hw) rfl
theorem v1173_eq : v1173 x0 x1 w hw = startT (v1081 x0 x1 w hw) 9 := start_next (v1163_eq x0 x1 w hw) rfl
theorem v1183_eq : v1183 x0 x1 w hw = startT (v1081 x0 x1 w hw) 10 := start_next (v1173_eq x0 x1 w hw) rfl
theorem v1193_eq : v1193 x0 x1 w hw = startT (v1081 x0 x1 w hw) 11 := start_next (v1183_eq x0 x1 w hw) rfl
theorem v1203_eq : v1203 x0 x1 w hw = startT (v1081 x0 x1 w hw) 12 := start_next (v1193_eq x0 x1 w hw) rfl
theorem v1213_eq : v1213 x0 x1 w hw = startT (v1081 x0 x1 w hw) 13 := start_next (v1203_eq x0 x1 w hw) rfl
theorem v1223_eq : v1223 x0 x1 w hw = startT (v1081 x0 x1 w hw) 14 := start_next (v1213_eq x0 x1 w hw) rfl
theorem v1233_eq : v1233 x0 x1 w hw = startT (v1081 x0 x1 w hw) 15 := start_next (v1223_eq x0 x1 w hw) rfl

theorem st_tr : S4x1.Transposes [1, 0] S1x4 := by decide

/-- All the starts, by group and row. -/
noncomputable def startsT (D : S16x4x384.Idx → BitVec 32) : S16x4.Idx → BitVec 32 := fun j => startT D (j 0).val (ix2 (j 1) (0 : Fin 1))

theorem starts_cat₀ : Shape.Concatenates ((List.ofFn fun g : Fin 16 => (⟨S1x4, fun _ => 0⟩ : (s : Shape) × (s.Idx → BitVec 32))).map (·.1)) S16x4 0 := by
  decide

theorem starts_cat (f : Fin 16 → (S1x4.Idx → BitVec 32)) :
    Shape.Concatenates ((List.ofFn fun g : Fin 16 => (⟨S1x4, f g⟩ : (s : Shape) × (s.Idx → BitVec 32))).map (·.1)) S16x4 0 :=
  starts_cat₀

theorem starts_ofFn (f : Fin 16 → (S1x4.Idx → BitVec 32)) (h) (g : Fin 16) (b : Fin 4) :
    concatenate S16x4 0 (List.ofFn fun g : Fin 16 => (⟨S1x4, f g⟩ : (s : Shape) × (s.Idx → BitVec 32))) h (ix2 g b) = f g (ix2 (0 : Fin 1) b) := by
  pointwise

theorem start_tr (r : S4x1.Idx → BitVec 32) (b : Fin 4) : transpose S1x4 [1, 0] r st_tr (ix2 (0 : Fin 1) b) = r (ix2 b (0 : Fin 1)) := by
  pointwise

theorem v1235_eq : v1235 x0 x1 w hw = startsT (v1081 x0 x1 w hw) := by
  have e : v1235 x0 x1 w hw = concatenate S16x4 0 (List.ofFn fun g : Fin 16 => (⟨S1x4, transpose S1x4 [1, 0] (startT (v1081 x0 x1 w hw) g.val) st_tr⟩ :
      (s : Shape) × (s.Idx → BitVec 32))) (starts_cat _) := by
    unfold v1235 v1084 v1094 v1104 v1114 v1124 v1134 v1144 v1154 v1164 v1174 v1184 v1194 v1204 v1214 v1224 v1234
    simp only [v1083_eq (v1081 x0 x1 w hw), v1093_eq x0 x1 w hw, v1103_eq x0 x1 w hw, v1113_eq x0 x1 w hw, v1123_eq x0 x1 w hw, v1133_eq x0 x1 w hw, v1143_eq x0 x1 w hw, v1153_eq x0 x1 w hw, v1163_eq x0 x1 w hw, v1173_eq x0 x1 w hw, v1183_eq x0 x1 w hw, v1193_eq x0 x1 w hw, v1203_eq x0 x1 w hw, v1213_eq x0 x1 w hw, v1223_eq x0 x1 w hw, v1233_eq x0 x1 w hw]
    rfl
  rw [e]
  funext j
  obtain ⟨g, b, rfl⟩ : ∃ (g : Fin 16) (b : Fin 4), j = ix2 g b := ⟨j 0, j 1, by funext a; fin_cases a <;> rfl⟩
  rw [starts_ofFn]
  exact start_tr (startT (v1081 x0 x1 w hw) g.val) b

/-! ## The codes -/

theorem code_sc : S16x4.ShapeCasts S16x4x1 := by decide
theorem code_bc : S16x4x1.Broadcasts S16x4x384 := by decide
theorem code_red : S16x4x384.Reduces [2] S16x4 := by decide

/-- The codes, less the row's first, after `s` steps of each group. -/
noncomputable def codesT (V : S256x4x384.Idx → BitVec 32) (r : S16x4.Idx → BitVec 32) : ℕ → (S16x4.Idx → BitVec 32)
  | 0 => r
  | s + 1 => codeT (codesT V r s) (slabV V s) code_sc code_bc code_red rfl

theorem code_next {V : S256x4x384.Idx → BitVec 32} {r0 r r' : S16x4.Idx → BitVec 32} {a : S16x4x384.Idx → BitVec 32} {s : ℕ}
    (hr : r = codesT V r0 s) (ha : a = slabV V s) (hr' : r' = codeT r a code_sc code_bc code_red rfl) : r' = codesT V r0 (s + 1) := by
  subst hr ha hr'; rfl

theorem v1244_eq : v1244 x0 x1 w hw = codesT (v173 x0 x1 w hw) (v1235 x0 x1 w hw) 1 := code_next (rfl : v1235 x0 x1 w hw = codesT _ _ 0) (v256_eq x0 x1 w hw) rfl
theorem v1256_eq : v1256 x0 x1 w hw = codesT (v173 x0 x1 w hw) (v1235 x0 x1 w hw) 2 := code_next (v1244_eq x0 x1 w hw) (v258_eq x0 x1 w hw) rfl
theorem v1268_eq : v1268 x0 x1 w hw = codesT (v173 x0 x1 w hw) (v1235 x0 x1 w hw) 3 := code_next (v1256_eq x0 x1 w hw) (v271_eq x0 x1 w hw) rfl
theorem v1280_eq : v1280 x0 x1 w hw = codesT (v173 x0 x1 w hw) (v1235 x0 x1 w hw) 4 := code_next (v1268_eq x0 x1 w hw) (v290_eq x0 x1 w hw) rfl
theorem v1292_eq : v1292 x0 x1 w hw = codesT (v173 x0 x1 w hw) (v1235 x0 x1 w hw) 5 := code_next (v1280_eq x0 x1 w hw) (v315_eq x0 x1 w hw) rfl
theorem v1304_eq : v1304 x0 x1 w hw = codesT (v173 x0 x1 w hw) (v1235 x0 x1 w hw) 6 := code_next (v1292_eq x0 x1 w hw) (v346_eq x0 x1 w hw) rfl
theorem v1316_eq : v1316 x0 x1 w hw = codesT (v173 x0 x1 w hw) (v1235 x0 x1 w hw) 7 := code_next (v1304_eq x0 x1 w hw) (v383_eq x0 x1 w hw) rfl
theorem v1328_eq : v1328 x0 x1 w hw = codesT (v173 x0 x1 w hw) (v1235 x0 x1 w hw) 8 := code_next (v1316_eq x0 x1 w hw) (v426_eq x0 x1 w hw) rfl
theorem v1340_eq : v1340 x0 x1 w hw = codesT (v173 x0 x1 w hw) (v1235 x0 x1 w hw) 9 := code_next (v1328_eq x0 x1 w hw) (v475_eq x0 x1 w hw) rfl
theorem v1352_eq : v1352 x0 x1 w hw = codesT (v173 x0 x1 w hw) (v1235 x0 x1 w hw) 10 := code_next (v1340_eq x0 x1 w hw) (v530_eq x0 x1 w hw) rfl
theorem v1364_eq : v1364 x0 x1 w hw = codesT (v173 x0 x1 w hw) (v1235 x0 x1 w hw) 11 := code_next (v1352_eq x0 x1 w hw) (v591_eq x0 x1 w hw) rfl
theorem v1376_eq : v1376 x0 x1 w hw = codesT (v173 x0 x1 w hw) (v1235 x0 x1 w hw) 12 := code_next (v1364_eq x0 x1 w hw) (v658_eq x0 x1 w hw) rfl
theorem v1388_eq : v1388 x0 x1 w hw = codesT (v173 x0 x1 w hw) (v1235 x0 x1 w hw) 13 := code_next (v1376_eq x0 x1 w hw) (v731_eq x0 x1 w hw) rfl
theorem v1400_eq : v1400 x0 x1 w hw = codesT (v173 x0 x1 w hw) (v1235 x0 x1 w hw) 14 := code_next (v1388_eq x0 x1 w hw) (v810_eq x0 x1 w hw) rfl
theorem v1412_eq : v1412 x0 x1 w hw = codesT (v173 x0 x1 w hw) (v1235 x0 x1 w hw) 15 := code_next (v1400_eq x0 x1 w hw) (v895_eq x0 x1 w hw) rfl
theorem v1424_eq : v1424 x0 x1 w hw = codesT (v173 x0 x1 w hw) (v1235 x0 x1 w hw) 16 := code_next (v1412_eq x0 x1 w hw) (v986_eq x0 x1 w hw) rfl

theorem col_inb (s : Fin 16) : ∀ a, (![0, 0, 15 - s.val] : Fin 3 → ℕ) a + S16x4x1.size a ≤ S16x4x16.size a := by
  intro a
  have := s.isLt
  fin_cases a <;> simp <;> omega

/-- What step `15 - s` stores. -/
noncomputable def colPiece (V : S256x4x384.Idx → BitVec 32) (r : S16x4.Idx → BitVec 32) (s : Fin 16) : S16x4x1.Idx → BitVec 32 :=
  shapeCast S16x4x1 (codesT V r (15 - s.val + 1)) code_sc

/-- The codes by group, row and step. -/
noncomputable def cols (V : S256x4x384.Idx → BitVec 32) (r : S16x4.Idx → BitVec 32) : S16x4x16.Idx → BitVec 32 := fun y =>
  codesT V r ((y 2).val + 1) (ix2 (y 0) (y 1))

theorem colPiece_apply (V : S256x4x384.Idx → BitVec 32) (r : S16x4.Idx → BitVec 32) (s : Fin 16) (x : S16x4x1.Idx) :
    colPiece V r s x = cols V r ((Rect.unit (s := S16x4x16) ![0, 0, 15 - s.val] S16x4x1.size (col_inb s)).emb x) := by
  have h2 : (x 2).val = 0 := by have : (x 2).val < 1 := (x 2).isLt; omega
  have hn : ((Rect.unit (s := S16x4x16) ![0, 0, 15 - s.val] S16x4x1.size (col_inb s)).emb x 2).val = 15 - s.val := by
    show 15 - s.val + 1 * (x 2).val = _
    omega
  unfold colPiece cols
  rw [hn]
  generalize codesT V r (15 - s.val + 1) = f
  pointwise
  refine congrArg f ?_
  funext a
  fin_cases a
  · exact Fin.ext (show (x 0).val = 0 + 1 * (x 0).val by omega)
  · exact Fin.ext (show (x 1).val = 0 + 1 * (x 1).val by omega)

theorem G5_eq : G5_16 x0 x1 w hw = List.ofFn fun s : Fin 16 =>
    (⟨Rect.unit (s := S16x4x16) ![0, 0, 15 - s.val] S16x4x1.size (col_inb s), colPiece (v173 x0 x1 w hw) (v1235 x0 x1 w hw) s⟩ :
      View.Piece (Elt F) S16x4x16 .i32) := by
  unfold G5_16 v1247 v1259 v1271 v1283 v1295 v1307 v1319 v1331 v1343 v1355 v1367 v1379 v1391 v1403 v1415 v1427
  simp only [v1244_eq x0 x1 w hw, v1256_eq x0 x1 w hw, v1268_eq x0 x1 w hw, v1280_eq x0 x1 w hw, v1292_eq x0 x1 w hw, v1304_eq x0 x1 w hw, v1316_eq x0 x1 w hw, v1328_eq x0 x1 w hw, v1340_eq x0 x1 w hw, v1352_eq x0 x1 w hw, v1364_eq x0 x1 w hw, v1376_eq x0 x1 w hw, v1388_eq x0 x1 w hw, v1400_eq x0 x1 w hw, v1412_eq x0 x1 w hw, v1424_eq x0 x1 w hw]
  rfl

theorem G5_canon (y : S16x4x16.Idx) : View.canon (G5_16 x0 x1 w hw) y = cols (v173 x0 x1 w hw) (v1235 x0 x1 w hw) y := by
  rw [G5_eq]
  refine canon_of_pieces (e := .i32) (Val := Elt F) (cols (v173 x0 x1 w hw) (v1235 x0 x1 w hw)) _ ?_ y ?_
  · intro p hp x
    obtain ⟨g, rfl⟩ := (List.mem_ofFn' _ _).mp hp
    exact colPiece_apply (v173 x0 x1 w hw) (v1235 x0 x1 w hw) g x
  · have h1 : (y 2).val < 16 := (y 2).isLt
    refine ⟨_, (List.mem_ofFn' _ _).mpr ⟨⟨15 - (y 2).val, by omega⟩, rfl⟩, ?_⟩
    refine (LoadRect.mem_set _).mpr fun a => ?_
    fin_cases a
    · exact ⟨(y 0).val, (y 0).isLt, by simp [Rect.unit]⟩
    · exact ⟨(y 1).val, (y 1).isLt, by simp [Rect.unit]⟩
    · exact ⟨0, Nat.one_pos, by simp [Rect.unit]; omega⟩

theorem flat_ok : S4x16x16.ShapeCasts S4x256 := by decide
theorem flat_tr : S16x4x16.Transposes [1, 0, 2] S4x16x16 := by decide

theorem flat_apply (f : S16x4x16.Idx → BitVec 32) (b : Fin 4) (t : Fin 256) :
    shapeCast S4x256 (transpose S4x16x16 [1, 0, 2] f flat_tr) flat_ok (ix2 b t)
      = f (ix3 (⟨t.val / 16, by omega⟩ : Fin 16) b (⟨t.val % 16, by omega⟩ : Fin 16)) := by
  pointwise

theorem v1430_apply (b : Fin 4) (t : Fin 256) : v1430 x0 x1 w hw (ix2 b t)
    = codesT (v173 x0 x1 w hw) (v1235 x0 x1 w hw) (t.val % 16 + 1) (ix2 (⟨t.val / 16, by omega⟩ : Fin 16) b) := by
  have e : v1428 x0 x1 w hw = cols (v173 x0 x1 w hw) (v1235 x0 x1 w hw) := by
    unfold v1428
    rw [View.readCov_eq_canon']
    funext j
    refine (G5_canon x0 x1 w hw _).trans (congrArg (cols (v173 x0 x1 w hw) (v1235 x0 x1 w hw)) ?_)
    funext a
    fin_cases a <;> refine Fin.ext ?_ <;> simp [Rect.unit]
  unfold v1430 v1429
  rw [e]
  exact flat_apply _ b t

/-! ## The codes' values -/

section Value

variable {V : S256x4x384.Idx → BitVec 32} {A : Fin 4 → ℕ → ℕ → ℕ} (hA : ∀ b t k, A b t k ≤ 1)
  (hV : ∀ (t : Fin 256) (b : Fin 4) (k : Fin 384), V (ix3 t b k) = BitVec.ofNat 32 (A b t.val k.val))

include hA hV

theorem dspT_value (s : ℕ) (hs : s < 16) (g : Fin 16) (b : Fin 4) (k : ℕ) (hk : k + 100 < 384) :
    dspT V s (ix3 g b (⟨k, by omega⟩ : Fin 384)) = BitVec.ofNat 32 (walk (A b) (g.val * 16) k (s + 1) - k) := by
  induction s with
  | zero =>
    show slabV V 0 _ = _
    rw [slabV_apply V 0 (by omega), hV]
    congr 1
    show A b (g.val * 16 + 0) k = k + A b (g.val * 16 + 0) k - k
    omega
  | succ s ih =>
    exact stepT_apply _ _ rot_ok (s + 1) (by omega) g b (A b) (hA b) (g.val * 16) k hk (ih (by omega)) fun v hv => by
      rw [slabV_apply V (s + 1) hs, hV]

theorem startT_value (g : ℕ) (hg : g < 16) (b : Fin 4) :
    startT (dspT V 15) g (ix2 b (0 : Fin 1)) = BitVec.ofNat 32 (walk (A b) 0 0 (g * 16)) := by
  induction g with
  | zero =>
    show v1083 _ = _
    unfold v1083
    pointwise
    rfl
  | succ g ih =>
    have hl := walk_le (A b) (hA b) 0 0 (g * 16)
    refine (jumpT_apply _ _ _ _ _ _ b _ (by omega) (ih (by omega))).trans ?_
    rw [rowT_apply, dspT_value hA hV 15 (by omega) _ b _ (by omega)]
    have hm : g % 16 = g := Nat.mod_eq_of_lt (by omega)
    rw [← BitVec.ofNat_add, Nat.succ_mul]
    show BitVec.ofNat 32 (walk (A b) 0 0 (g * 16) + (walk (A b) (g % 16 * 16) _ 16 - _)) = _
    have ha := walk_add (A b) 0 0 (g * 16) 16
    rw [Nat.zero_add] at ha
    rw [hm, ha]
    have := le_walk (A b) (g * 16) (walk (A b) 0 0 (g * 16)) 16
    congr 1
    omega

theorem codesT_value (s : ℕ) (hs : s ≤ 16) (g : Fin 16) (b : Fin 4) :
    codesT V (startsT (dspT V 15)) s (ix2 g b) = BitVec.ofNat 32 (walk (A b) 0 0 (g.val * 16 + s)) := by
  induction s with
  | zero => exact startT_value hA hV g.val g.isLt b
  | succ s ih =>
    have hl := walk_le (A b) (hA b) 0 0 (g.val * 16 + s)
    refine (codeT_apply _ _ _ _ _ _ g b _ (by omega) (ih (by omega))).trans ?_
    rw [slabV_apply V s (by omega), hV, ← BitVec.ofNat_add, ← Nat.add_assoc, walk_succ, Nat.zero_add]

end Value

/-- The code of row `b` at time `t`, less the row's first code: the path's position after `t + 1` steps. -/
theorem v1430_value {A : Fin 4 → ℕ → ℕ → ℕ} (hA : ∀ b t k, A b t k ≤ 1)
    (hV : ∀ (t : Fin 256) (b : Fin 4) (k : Fin 384), v173 x0 x1 w hw (ix3 t b k) = BitVec.ofNat 32 (A b t.val k.val))
    (b : Fin 4) (t : Fin 256) : v1430 x0 x1 w hw (ix2 b t) = BitVec.ofNat 32 (walk (A b) 0 0 (t.val + 1)) := by
  rw [v1430_apply, v1235_eq, v1081_eq, codesT_value hA hV (t.val % 16 + 1) (by omega)]
  congr 2
  show t.val / 16 * 16 + (t.val % 16 + 1) = t.val + 1
  omega

end Cert.KernelIdeal.Hand
-- ==== Proof.Path.lean ====
/- The path of codes, as plain mathematics: distances, the starting code, and one step after another. -/
module

public import Idealize.ShloMosaic.Lib.Pointwise
public import Mathlib.Data.BitVec

@[expose] public section

noncomputable section

namespace Cert.Path

open Idealize.ShloMosaic

/-- The factor two, as both programs write it. -/
noncomputable def two : EReal := Ideal.ofBits FTy.f32 0x40000000#32

/-- The expanded squared distance of a vector and a code. -/
noncomputable def dist (z e : Fin 32 → EReal) : EReal := (∑ d, z d * z d + ∑ d, e d * e d) - two * ∑ d, z d * e d

/-- `j` is the first of the 8193 codes at which `f` is smallest. -/
structure IsFirst (f : ℕ → EReal) (j : ℕ) : Prop where
  lt : j < 8193
  le : ∀ i < 8193, f j ≤ f i
  before : ∀ i < j, f j < f i

/-- The first of the 8193 codes at which `f` is smallest. -/
noncomputable def first (f : ℕ → EReal) : ℕ := sInf {j | j < 8193 ∧ ∀ i < 8193, f j ≤ f i}

theorem IsFirst.eq {f : ℕ → EReal} {j : ℕ} (h : IsFirst f j) : first f = j := by
  have hm : j ∈ {j | j < 8193 ∧ ∀ i < 8193, f j ≤ f i} := ⟨h.lt, h.le⟩
  refine le_antisymm (Nat.sInf_le hm) ?_
  by_contra hlt
  have hs := Nat.sInf_mem (⟨j, hm⟩ : Set.Nonempty _)
  exact absurd (hs.2 j h.lt) (not_le.mpr (h.before _ (not_le.mp hlt)))

/-- The code at each time: the start, then step by step stay or move to the next code, never past 8191. -/
noncomputable def code (f : ℕ → ℕ → EReal) : ℕ → ℕ
  | 0 => min (first (f 0)) 8191
  | t + 1 => if f (t + 1) (code f t) ≤ f (t + 1) (min (code f t + 1) 8191) then code f t else min (code f t + 1) 8191

theorem code_le (f : ℕ → ℕ → EReal) (t : ℕ) : code f t ≤ 8191 := by
  induction t with
  | zero => exact min_le_right _ _
  | succ t ih =>
    unfold code
    split
    · exact ih
    · exact min_le_right _ _

/-- A code's rows, with zero rows after the last. -/
noncomputable def rows (E : Fin 8193 → Fin 32 → EReal) (n : ℕ) : Fin 32 → EReal := if h : n < 8193 then E ⟨n, h⟩ else fun _ => 0

/-- The distances along one sequence of vectors. -/
noncomputable def dists (Z : Fin 256 → Fin 32 → EReal) (E : Fin 8193 → Fin 32 → EReal) (t n : ℕ) : EReal :=
  dist (if h : t < 256 then Z ⟨t, h⟩ else fun _ => 0) (rows E n)

end Cert.Path
-- ==== Proof.KI.Dist.lean ====
/- The kernel's distances: the squared norms, the window of each row read at an index, and the jumps it compares. -/
module

public import proofs.«01_k».proof.Proof.KI.Chain
public import proofs.«01_k».proof.Proof.Path

@[expose] public section

set_option maxRecDepth 16384

noncomputable section

namespace Cert.KernelIdeal.Hand

open Cert.KernelIdeal Cert.KernelIdeal.Gen Idealize.ShloMosaic Cert.Path
open kernelRun.sl

section Rows

variable {F : FTy → Type} [FloatOps F]

/-- One row of the window distances: 256 vectors from `o` on against 384 codes. -/
noncomputable def rowD (r : S1024x32.Idx → F .f32) (q : S1024x1.Idx → F .f32) (win : S384x32.Idx → F .f32) (o : ℕ)
    (h1 : S1024x32.Slices ![o, 0] S256x32) (h2 : S1024x1.Slices ![o, 0] S256x1) : S256x1x384.Idx → F .f32 :=
  shapeCast S256x1x384 (subf (addf (broadcastTo S256x384 (extractStridedSlice S256x1 ![o, 0] q h2) broadcasts_S256x1_S256x384)
      (broadcastTo S256x384 (shapeCast S1x384 (multiReduction .add [0] S384
        (mulf (transpose S32x384 [1, 0] (shapeCast S384x32 win shapeCasts_S384x32_S384x32) transposes_S384x32_p1_0_S32x384)
          (transpose S32x384 [1, 0] (shapeCast S384x32 win shapeCasts_S384x32_S384x32) transposes_S384x32_p1_0_S32x384))
        0#32 reduces_S32x384_S384 (.inl rfl) rfl) shapeCasts_S384_S1x384) broadcasts_S1x384_S256x384))
    (mulf v80 (matmul dot_S256x32_S32x384_S256x384_1_0_0_1_n_n none (extractStridedSlice S256x32 ![o, 0] r h1)
      (transpose S32x384 [1, 0] (shapeCast S384x32 win shapeCasts_S384x32_S384x32) transposes_S384x32_p1_0_S32x384) cst_18)))
    shapeCasts_S256x384_S256x1x384

variable (x0 : Vec F S1024x32 .f32) (x1 : Vec F S9216x32 .f32) (w : Vec F S4x1 .i32) (hw : ∀ i, (w i).toNat ≤ 8191)

/-- The window of 384 code rows that starts at row `n`. -/
noncomputable def win (x1 : S9216x32.Idx → F .f32) (n : ℕ) : S384x32.Idx → F .f32 := fun j =>
  x1 (ix2 (⟨(n + (j 0).val) % 9216, Nat.mod_lt _ (by decide)⟩ : Fin 9216) (j 1))

theorem readAt_we (o : Fin 2 → ℕ) (inb : ∀ a, o a + S384x32.size a ≤ S9216x32.size a) (n : ℕ) (hn : n ≤ 8191) (ho : o = ![n, 0]) :
    View.readAt (Elt F) we.view (Rect.unit (s := S9216x32) o S384x32.size inb).toLoadRect x1 = win x1 n := by
  subst ho
  funext j
  unfold win
  show x1 _ = x1 _
  refine congrArg x1 ?_
  have h : (j 0).val < 384 := (j 0).isLt
  have e : (n + (j 0).val) % 9216 = n + (j 0).val := Nat.mod_eq_of_lt (by omega)
  funext a
  fin_cases a <;> refine Fin.ext ?_
  · show n + 1 * (j 0).val = (n + (j 0).val) % 9216
    omega
  · show 0 + 1 * (j 1).val = (j 1).val
    omega

theorem r_7_eq : r_7 (F := F) w = w (ix 1) := by
  unfold r_7
  show w _ = w _
  refine congrArg w ?_
  funext a; fin_cases a <;> rfl

theorem r_8_eq : r_8 (F := F) w = w (ix 2) := by
  unfold r_8
  show w _ = w _
  refine congrArg w ?_
  funext a; fin_cases a <;> rfl

theorem r_9_eq : r_9 (F := F) w = w (ix 3) := by
  unfold r_9
  show w _ = w _
  refine congrArg w ?_
  funext a; fin_cases a <;> rfl

theorem v85_eq : v85 x0 x1 w hw = rowD (r x0) (r_2 x0) (win x1 (w (ix 0)).toNat) 0 slices_S1024x32_o0_0_S256x32 slices_S1024x1_o0_0_S256x1 := by
  rw [← readAt_we x1 (k0_off1 (w (ix 0))) (rows_inb (hw _)) (w (ix 0)).toNat (hw _) rfl]
  rfl

theorem v104_eq : v104 x0 x1 w hw = rowD (r x0) (r_2 x0) (win x1 (w (ix 1)).toNat) 256 slices_S1024x32_o256_0_S256x32 slices_S1024x1_o256_0_S256x1 := by
  rw [← r_7_eq w, ← readAt_we x1 (k0_off2 (r_7 w)) (rows_inb (hw _)) (r_7 w).toNat (hw _) rfl]
  rfl

theorem v123_eq : v123 x0 x1 w hw = rowD (r x0) (r_2 x0) (win x1 (w (ix 2)).toNat) 512 slices_S1024x32_o512_0_S256x32 slices_S1024x1_o512_0_S256x1 := by
  rw [← r_8_eq w, ← readAt_we x1 (k0_off3 (r_8 w)) (rows_inb (hw _)) (r_8 w).toNat (hw _) rfl]
  rfl

theorem v142_eq : v142 x0 x1 w hw = rowD (r x0) (r_2 x0) (win x1 (w (ix 3)).toNat) 768 slices_S1024x32_o768_0_S256x32 slices_S1024x1_o768_0_S256x1 := by
  rw [← r_9_eq w, ← readAt_we x1 (k0_off4 (r_9 w)) (rows_inb (hw _)) (r_9 w).toNat (hw _) rfl]
  rfl

end Rows

section Values

variable (x0 : Vec Ideal S1024x32 .f32) (x1 : Vec Ideal S9216x32 .f32) (x2 : Vec Ideal S32x9216 .f32) (w : Vec Ideal S4x1 .i32)
  (hw : ∀ i, (w i).toNat ≤ 8191)

theorem row_lt (b : Fin 4) (t : Fin 256) : b.val * 256 + t.val < 1024 := by omega

/-- A sum of 32 terms added as a tree. -/
theorem tree_sum (g : Fin 32 → EReal) :
    (g 8 + g 0 + g 16 + g 24 + (g 12 + g 4 + g 20 + g 28) + (g 10 + g 2 + g 18 + g 26 + (g 14 + g 6 + g 22 + g 30)))
      + (g 9 + g 1 + g 17 + g 25 + (g 13 + g 5 + g 21 + g 29) + (g 11 + g 3 + g 19 + g 27 + (g 15 + g 7 + g 23 + g 31))) = ∑ d, g d := by
  rw [Fin.sum_univ_def, show List.finRange 32 = [0, 1, 2, 3, 4, 5, 6, 7, 8, 9, 10, 11, 12, 13, 14, 15, 16, 17, 18, 19, 20, 21, 22, 23, 24, 25, 26, 27, 28, 29, 30, 31] by decide]
  simp only [List.map_cons, List.map_nil, List.sum_cons, List.sum_nil, add_zero]
  ac_rfl

/-- The kernel's sum of squares adds the 32 terms as a tree; it is their sum. -/
theorem pay4_apply (n : Fin 1024) : k0_pay4 x0 (ix2 n (0 : Fin 1)) = ∑ d : Fin 32, x0 (ix2 n d) * x0 (ix2 n d) := by
  unfold k0_pay4 k0_pay2
  pointwise
  exact tree_sum fun d => x0 (ix2 n d) * x0 (ix2 n d)

theorem pay5_apply (n : Fin 9216) : k0_pay5 x2 (ix2 (0 : Fin 1) n) = ∑ d : Fin 32, x2 (ix2 d n) * x2 (ix2 d n) := by
  unfold k0_pay5 k0_pay3
  pointwise

theorem rowD_apply (r : S1024x32.Idx → EReal) (q : S1024x1.Idx → EReal) (win : S384x32.Idx → EReal) (o : ℕ) (h1 h2)
    (ho : o + 256 ≤ 1024) (t : Fin 256) (k : Fin 384) :
    rowD (F := Ideal) r q win o h1 h2 (ix3 t (0 : Fin 1) k)
      = (q (ix2 (⟨o + t.val, by omega⟩ : Fin 1024) (0 : Fin 1)) + ∑ d : Fin 32, win (ix2 k d) * win (ix2 k d))
        - two * ∑ d : Fin 32, r (ix2 (⟨o + t.val, by omega⟩ : Fin 1024) d) * win (ix2 k d) := by
  unfold rowD v80 cst_18 cst_19 two
  pointwise

/-- The starting code of each row, as the kernel selects it row by row. -/
theorem v156_apply (b : Fin 4) : v156 (F := Ideal) w (ix2 b (0 : Fin 1)) = w (ix b) := by
  unfold v156 v155 v152 v153 v151 v148 v149 v147 v144 v143 v145
  pointwise
  rw [r_7_eq, r_8_eq, r_9_eq]
  have h1 := select_eq_ofNat b.val 1 (by omega) (by omega)
  have h2 := select_eq_ofNat b.val 2 (by omega) (by omega)
  have h3 := select_eq_ofNat b.val 3 (by omega) (by omega)
  rw [h1, h2, h3]
  fin_cases b <;> rfl

/-- All four rows of the window distances. -/
noncomputable def allD : S256x4x384.Idx → EReal := fun y =>
  (r_2 x0 (ix2 (⟨(y 1).val * 256 + (y 0).val, row_lt (y 1) (y 0)⟩ : Fin 1024) (0 : Fin 1))
      + ∑ d : Fin 32, win (F := Ideal) x1 (w (ix (y 1))).toNat (ix2 (y 2) d) * win (F := Ideal) x1 (w (ix (y 1))).toNat (ix2 (y 2) d))
    - two * ∑ d : Fin 32, r x0 (ix2 (⟨(y 1).val * 256 + (y 0).val, row_lt (y 1) (y 0)⟩ : Fin 1024) d)
        * win (F := Ideal) x1 (w (ix (y 1))).toNat (ix2 (y 2) d)

theorem row_inb (b : Fin 4) : ∀ a, (![0, b.val, 0] : Fin 3 → ℕ) a + S256x1x384.size a ≤ S256x4x384.size a := by
  intro a
  have := b.isLt
  fin_cases a <;> simp <;> omega

theorem rowD_allD (b : Fin 4) (h1 h2) (inb : ∀ a, (![0, b.val, 0] : Fin 3 → ℕ) a + S256x1x384.size a ≤ S256x4x384.size a)
    (x : S256x1x384.Idx) :
    rowD (F := Ideal) (r x0) (r_2 x0) (win x1 (w (ix b)).toNat) (b.val * 256) h1 h2 x
      = allD x0 x1 w ((Rect.unit (s := S256x4x384) ![0, b.val, 0] S256x1x384.size inb).emb x) := by
  have e : x = ix3 (x 0) (0 : Fin 1) (x 2) := by
    funext a
    fin_cases a
    · rfl
    · exact Fin.ext (by have : (x 1).val < 1 := (x 1).isLt; show (x 1).val = 0; omega)
    · rfl
  have ho : b.val * 256 + 256 ≤ 1024 := by have := b.isLt; omega
  have hx : (Rect.unit (s := S256x4x384) ![0, b.val, 0] S256x1x384.size inb).emb x = ix3 (x 0) b (x 2) := by
    have : (x 1).val < 1 := (x 1).isLt
    funext a
    fin_cases a <;> refine Fin.ext ?_
    · show 0 + 1 * (x 0).val = (x 0).val
      omega
    · show b.val + 1 * (x 1).val = b.val
      omega
    · show 0 + 1 * (x 2).val = (x 2).val
      omega
  rw [hx]
  exact (congrArg _ e).trans (rowD_apply (r x0) (r_2 x0) _ (b.val * 256) h1 h2 ho (x 0) (x 2))

theorem v162_apply (y : S256x4x384.Idx) : View.canon (G3_4 x0 x1 w hw) y = allD x0 x1 w y := by
  refine canon_of_pieces (e := .f32) (Val := Elt Ideal) (allD x0 x1 w) _ ?_ y ?_
  · intro p hp x
    unfold G3_4 at hp
    rw [v85_eq, v104_eq, v123_eq, v142_eq] at hp
    simp only [List.mem_cons, List.not_mem_nil, or_false] at hp
    rcases hp with rfl | rfl | rfl | rfl
    · exact rowD_allD x0 x1 w 3 _ _ (row_inb 3) x
    · exact rowD_allD x0 x1 w 2 _ _ (row_inb 2) x
    · exact rowD_allD x0 x1 w 1 _ _ (row_inb 1) x
    · exact rowD_allD x0 x1 w 0 _ _ (row_inb 0) x
  · have h1 : (y 1).val < 4 := (y 1).isLt
    have hm : ∀ (b : Fin 4) (inb : ∀ a, (![0, b.val, 0] : Fin 3 → ℕ) a + S256x1x384.size a ≤ S256x4x384.size a),
        (y 1).val = b.val → y ∈ (Rect.unit (s := S256x4x384) ![0, b.val, 0] S256x1x384.size inb).set := by
      intro b inb hb
      refine (LoadRect.mem_set _).mpr fun a => ?_
      fin_cases a
      · exact ⟨(y 0).val, (y 0).isLt, by simp [Rect.unit]⟩
      · exact ⟨0, Nat.one_pos, by simp [Rect.unit]; exact hb⟩
      · exact ⟨(y 2).val, (y 2).isLt, by simp [Rect.unit]⟩
    have hc : (y 1).val = 0 ∨ (y 1).val = 1 ∨ (y 1).val = 2 ∨ (y 1).val = 3 := by omega
    unfold G3_4
    simp only [List.mem_cons, List.not_mem_nil, or_false, exists_eq_or_imp, exists_eq_left]
    rcases hc with h | h | h | h
    · exact Or.inr (Or.inr (Or.inr (hm 0 (row_inb 0) h)))
    · exact Or.inr (Or.inr (Or.inl (hm 1 (row_inb 1) h)))
    · exact Or.inr (Or.inl (hm 2 (row_inb 2) h))
    · exact Or.inl (hm 3 (row_inb 3) h)

theorem v162_eq : v162 x0 x1 w hw = allD x0 x1 w := by
  unfold v162
  rw [View.readCov_eq_canon']
  funext j
  rw [v162_apply]
  refine congrArg (allD x0 x1 w) ?_
  funext a
  fin_cases a <;> refine Fin.ext ?_ <;> simp [Rect.unit]

/-- The word of one jump. -/
theorem jump_word (t k s : ℕ) (ht : t < 256) (hk : k < 384) (hs : s ≤ 8191) (p : Prop) [Decidable p] :
    Scalar.select (IntOp.cmpi CmpIPredicate.eq (BitVec.ofNat 32 t) 0#32) (0#32)
      (BitVec.setWidth 32 (IntOp.andi (BitVec.ofBool (decide p))
        (IntOp.cmpi CmpIPredicate.slt (BitVec.ofNat 32 k) (IntOp.subi (8191#32) (BitVec.ofNat 32 s)))))
      = BitVec.ofNat 32 (if t = 0 then 0 else if k < 8191 - s ∧ p then 1 else 0) := by
  have e0 : (0#32) = BitVec.ofNat 32 0 := rfl
  rw [e0, select_eq_ofNat _ _ (by omega) (by omega)]
  by_cases h : t = 0
  · rw [if_pos h, if_pos h]
  · rw [if_neg h, if_neg h]
    have hsub : IntOp.subi (8191#32) (BitVec.ofNat 32 s) = BitVec.ofNat 32 (8191 - s) := by
      refine BitVec.eq_of_toNat_eq ?_
      show ((8191#32) - BitVec.ofNat 32 s).toNat = _
      rw [BitVec.toNat_sub]
      simp only [BitVec.toNat_ofNat]
      omega
    have hlt : (BitVec.ofNat 32 k).slt (BitVec.ofNat 32 (8191 - s)) = decide (k < 8191 - s) := by
      have h1 : (BitVec.ofNat 32 k).toInt = k := by
        rw [BitVec.toInt_eq_toNat_cond, BitVec.toNat_ofNat, Nat.mod_eq_of_lt (by omega), if_pos (by omega)]
      have h2 : (BitVec.ofNat 32 (8191 - s)).toInt = (8191 - s : ℕ) := by
        rw [BitVec.toInt_eq_toNat_cond, BitVec.toNat_ofNat, Nat.mod_eq_of_lt (by omega), if_pos (by omega)]
      unfold BitVec.slt
      rw [h1, h2]
      simp
    rw [hsub]
    show BitVec.setWidth 32 (BitVec.ofBool (decide p) &&& BitVec.ofBool ((BitVec.ofNat 32 k).slt (BitVec.ofNat 32 (8191 - s)))) = _
    rw [hlt]
    by_cases hp : p <;> by_cases hq : k < 8191 - s <;> simp [hp, hq] <;> rfl

/-- The jump a time step makes from lane `k`: one if the next lane is nearer and the row may still move. -/
theorem v173_apply (t : Fin 256) (b : Fin 4) (k : Fin 384) :
    v173 x0 x1 w hw (ix3 t b k) = BitVec.ofNat 32 (if t.val = 0 then 0 else if k.val < 8191 - (w (ix b)).toNat
      ∧ allD x0 x1 w (ix3 t b (⟨(k.val + 384 - 383) % 384, Nat.mod_lt _ (by decide)⟩ : Fin 384)) < allD x0 x1 w (ix3 t b k)
      then 1 else 0) := by
  unfold v173 v170 v169 v168 v167 v166 v165 v164 v163 v161 v160 v158 v157 v159
  rw [v162_eq]
  have hu := v156_apply w b
  generalize allD x0 x1 w = D
  generalize v156 (F := Ideal) w = u at hu
  pointwise
  rw [hu]
  have hl := hw (ix b)
  obtain ⟨s, hs⟩ : ∃ s, (w (ix b)).toNat = s := ⟨_, rfl⟩
  have hb : w (ix b) = BitVec.ofNat 32 s := by rw [← hs]; simp
  rw [hs] at hl ⊢
  rw [hb]
  exact jump_word t.val k.val s t.isLt k.isLt hl _

theorem readAt_wz : View.readAt (Elt Ideal) wz.view (Rect.unit ![0, 0] S1024x32.size inb_S1024x32_S1024x32_0_0).toLoadRect x0 = x0 := by
  funext j
  show x0 _ = x0 _
  refine congrArg x0 ?_
  funext a
  fin_cases a <;> refine Fin.ext ?_
  · show 0 + 1 * (j 0).val = (j 0).val
    omega
  · show 0 + 1 * (j 1).val = (j 1).val
    omega

theorem r_eq : r x0 = x0 := by
  unfold r
  rw [readAt_wz]
  funext j
  unfold k0_pay2
  idx_vars j
  pointwise

theorem r_2_eq : r_2 x0 = k0_pay4 x0 := by
  unfold r_2
  rw [readAt_wz]

theorem win_apply (n : ℕ) (hn : n ≤ 8191) (k : Fin 384) (d : Fin 32) :
    win (F := Ideal) x1 n (ix2 k d) = x1 (ix2 (⟨n + k.val, by omega⟩ : Fin 9216) d) := by
  unfold win
  refine congrArg x1 ?_
  have e : (n + k.val) % 9216 = n + k.val := Nat.mod_eq_of_lt (by omega)
  funext a
  fin_cases a
  · exact Fin.ext e
  · rfl

variable (Z : Fin 4 → Fin 256 → Fin 32 → EReal) (E : Fin 8193 → Fin 32 → EReal)

/-- The window distances are the distances from the row's starting code on. -/
theorem allD_apply (hZ : ∀ (b : Fin 4) (t : Fin 256) (d : Fin 32), x0 (ix2 (⟨b.val * 256 + t.val, row_lt b t⟩ : Fin 1024) d) = Z b t d)
    (hE : ∀ (n : Fin 9216) (d : Fin 32), x1 (ix2 n d) = rows E n.val d) (hw : ∀ i, (w i).toNat ≤ 8191) (t : Fin 256) (b : Fin 4) (k : Fin 384) :
    allD x0 x1 w (ix3 t b k) = dists (Z b) E t.val ((w (ix b)).toNat + k.val) := by
  unfold allD dists Path.dist
  rw [r_eq, r_2_eq, pay4_apply]
  have h1 : ∀ d : Fin 32, win (F := Ideal) x1 (w (ix b)).toNat (ix2 k d) = rows E ((w (ix b)).toNat + k.val) d := fun d => by
    rw [win_apply x1 _ (hw _), hE]
  have h2 : ∀ d : Fin 32, x0 (ix2 (⟨b.val * 256 + t.val, row_lt b t⟩ : Fin 1024) d) = (if h : t.val < 256 then Z b ⟨t.val, h⟩ else fun _ => 0) d :=
    fun d => by rw [dif_pos t.isLt, hZ]
  simp only [← h1, ← h2]
  rfl

/-- The row's jumps, from the lane it stands on. -/
noncomputable def jumps (f : ℕ → ℕ → EReal) (s t k : ℕ) : ℕ :=
  if t = 0 then 0 else if k < 8191 - s ∧ f t (s + (k + 384 - 383) % 384) < f t (s + k) then 1 else 0

theorem code_eq_walk (f : ℕ → ℕ → EReal) (s : ℕ) (hs : s = min (first (f 0)) 8191) (t : ℕ) (ht : t < 256) :
    code f t = s + walk (jumps f s) 0 0 (t + 1) := by
  have hA : ∀ t k, jumps f s t k ≤ 1 := by
    intro t k
    unfold jumps
    split_ifs <;> omega
  induction t with
  | zero =>
    rw [walk_succ]
    show min (first (f 0)) 8191 = s + (0 + jumps f s 0 0)
    rw [← hs]
    unfold jumps
    simp
  | succ t ih =>
    have ih := ih (by omega)
    have hl := walk_le (jumps f s) hA 0 0 (t + 1)
    have hc := code_le f t
    rw [walk_succ]
    generalize walk (jumps f s) 0 0 (t + 1) = p at *
    rw [code, ih]
    unfold jumps
    have e : 0 + (t + 1) = t + 1 := by omega
    have hne : ¬ t + 1 = 0 := by omega
    rw [e, if_neg hne, show (p + 384 - 383) % 384 = p + 1 by omega]
    by_cases h : p < 8191 - s
    · rw [show min (s + p + 1) 8191 = s + (p + 1) by omega]
      by_cases h2 : f (t + 1) (s + (p + 1)) < f (t + 1) (s + p)
      · rw [if_neg (not_le.mpr h2), if_pos ⟨h, h2⟩]
      · rw [if_pos (not_lt.mp h2), if_neg (fun h' => h2 h'.2), Nat.add_zero]
    · rw [show min (s + p + 1) 8191 = s + p by omega, if_pos le_rfl, if_neg (fun h' => h h'.1), Nat.add_zero]

/-- The kernel's codes are the path's. -/
theorem v1432_value (hZ : ∀ (b : Fin 4) (t : Fin 256) (d : Fin 32), x0 (ix2 (⟨b.val * 256 + t.val, row_lt b t⟩ : Fin 1024) d) = Z b t d)
    (hE : ∀ (n : Fin 9216) (d : Fin 32), x1 (ix2 n d) = rows E n.val d)
    (hs : ∀ b, w (ix b) = BitVec.ofNat 32 (min (first (dists (Z b) E 0)) 8191)) (b : Fin 4) (t : Fin 256) :
    v1432 x0 x1 w hw (ix2 b t) = BitVec.ofNat 32 (code (dists (Z b) E) t.val) := by
  have hs' : ∀ b, (w (ix b)).toNat = min (first (dists (Z b) E 0)) 8191 := by
    intro b
    rw [hs b, BitVec.toNat_ofNat, Nat.mod_eq_of_lt (by have := min_le_right (first (dists (Z b) E 0)) 8191; omega)]
  have hV := v1430_value x0 x1 w hw (A := fun b => jumps (dists (Z b) E) (w (ix b)).toNat)
    (fun b t k => by unfold jumps; split_ifs <;> omega)
    (fun t b k => by
      rw [v173_apply, allD_apply x0 x1 w Z E hZ hE hw, allD_apply x0 x1 w Z E hZ hE hw]
      rfl) b t
  rw [hs' b] at hV
  have hu := v156_apply w b
  unfold v1432 v1431
  generalize v1430 x0 x1 w hw = X at hV
  generalize v156 (F := Ideal) w = u at hu
  pointwise
  rw [hV, hu, hs b, code_eq_walk _ _ rfl _ t.isLt]
  show BitVec.ofNat 32 _ + BitVec.ofNat 32 _ = _
  rw [← BitVec.ofNat_add, Nat.add_comm]

end Values

end Cert.KernelIdeal.Hand
-- ==== Proof.KI.Argmin.lean ====
/- The kernel's first codes: of each row's first vector, the first nearest code, clipped to `[0, 8191]`. -/
module

public import proofs.«01_k».proof.Proof.KI.Dist

@[expose] public section

set_option maxRecDepth 16384

noncomputable section

namespace Cert.KernelIdeal.Hand

open Cert.KernelIdeal Cert.KernelIdeal.Gen Idealize.ShloMosaic Cert.Path
open kernelRun.sl

/-- A smallest value folded from the top is below every term and is one of the terms. -/
theorem fold_min_spec {n : ℕ} (hn : 0 < n) (g : Fin n → EReal) :
    (∀ i, Finset.fold min ⊤ g Finset.univ ≤ g i) ∧ ∃ i, Finset.fold min ⊤ g Finset.univ = g i := by
  have e : Finset.fold min ⊤ g Finset.univ = Finset.univ.inf g := rfl
  rw [e]
  refine ⟨fun i => Finset.inf_le (Finset.mem_univ i), ?_⟩
  haveI : Nonempty (Fin n) := ⟨⟨0, hn⟩⟩
  obtain ⟨i, -, h⟩ := Finset.exists_mem_eq_inf Finset.univ Finset.univ_nonempty g
  exact ⟨i, h⟩

/-- Signed minima of small words, folded: the smallest of the numbers. -/
theorem fold_minsi {n : ℕ} (g : Fin n → ℕ) (hg : ∀ i, g i < 2 ^ 31) (j : ℕ) (hj : ∃ i, g i = j) (hmin : ∀ i, j ≤ g i) :
    Finset.fold IntOp.minsi (2147483647#32) (fun i => BitVec.ofNat 32 (g i)) Finset.univ = BitVec.ofNat 32 j := by
  classical
  have hms : ∀ a b : ℕ, a < 2 ^ 31 → b < 2 ^ 31 → IntOp.minsi (BitVec.ofNat 32 a) (BitVec.ofNat 32 b) = BitVec.ofNat 32 (min a b) := by
    intro a b ha hb
    have h1 : (BitVec.ofNat 32 a).toInt = a := by
      rw [BitVec.toInt_eq_toNat_cond, BitVec.toNat_ofNat, Nat.mod_eq_of_lt (by omega), if_pos (by omega)]
    have h2 : (BitVec.ofNat 32 b).toInt = b := by
      rw [BitVec.toInt_eq_toNat_cond, BitVec.toNat_ofNat, Nat.mod_eq_of_lt (by omega), if_pos (by omega)]
    unfold IntOp.minsi
    simp only [BitVec.slt_iff_toInt_lt, h1, h2]
    split_ifs with h
    · rw [min_eq_left (by omega)]
    · rw [min_eq_right (by omega)]
  have key : ∀ S : Finset (Fin n), Finset.fold IntOp.minsi (2147483647#32) (fun i => BitVec.ofNat 32 (g i)) S
      = BitVec.ofNat 32 (Finset.fold min 2147483647 g S) ∧ Finset.fold min 2147483647 g S < 2 ^ 31 := by
    intro S
    induction S using Finset.induction_on with
    | empty => exact ⟨rfl, by simp⟩
    | insert a S ha ih =>
      rw [Finset.fold_insert ha, Finset.fold_insert ha, ih.1, hms _ _ (hg a) ih.2]
      exact ⟨rfl, lt_of_le_of_lt (min_le_left _ _) (hg a)⟩
  rw [(key Finset.univ).1]
  congr 1
  obtain ⟨i, hi⟩ := hj
  refine le_antisymm ?_ ?_
  · rw [← hi]
    exact (Finset.le_fold_min _).mp le_rfl |>.2 i (Finset.mem_univ i)
  · refine (Finset.le_fold_min _).mpr ⟨?_, fun i _ => hmin i⟩
    have := hg i
    omega

/-- The mask constant is the top element. -/
theorem mask_top : Named.named (F := Ideal) κ "mask" (φ := .f32) 1900671690#32 = (⊤ : EReal) := rfl

theorem toInt_ofNat (n : ℕ) (hn : n < 2 ^ 31) : (BitVec.ofNat 32 n).toInt = n := by
  rw [BitVec.toInt_eq_toNat_cond, BitVec.toNat_ofNat, Nat.mod_eq_of_lt (by omega), if_pos (by omega)]

theorem slt_ofNat (a b : ℕ) (ha : a < 2 ^ 31) (hb : b < 2 ^ 31) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  unfold BitVec.slt
  rw [toInt_ofNat a ha, toInt_ofNat b hb]
  simp

theorem select_ofBool {α : Type} (c : Bool) (x y : α) : Scalar.select (BitVec.ofBool c) x y = if c = true then x else y := by
  cases c <;> rfl

section Values

variable (x0 : Vec Ideal S1024x32 .f32) (x2 : Vec Ideal S32x9216 .f32)
variable (Z : Fin 4 → Fin 256 → Fin 32 → EReal) (E : Fin 8193 → Fin 32 → EReal)

theorem pay6_apply (hZ : ∀ (b : Fin 4) (t : Fin 256) (d : Fin 32), x0 (ix2 (⟨b.val * 256 + t.val, row_lt b t⟩ : Fin 1024) d) = Z b t d)
    (hT : ∀ (n : Fin 9216) (d : Fin 32), x2 (ix2 d n) = rows E n.val d) (b : Fin 4) (n : Fin 9216) :
    k0_pay6 x0 x2 (ix2 b n) = if n.val < 8193 then dists (Z b) E 0 n.val else ⊤ := by
  unfold k0_pay6 k0_pay3 k0_pay2
  have hz : ∀ m : Fin 1024, k0_pay4 x0 (ix2 m (0 : Fin 1)) = ∑ d : Fin 32, x0 (ix2 m d) * x0 (ix2 m d) := pay4_apply x0
  have he : k0_pay5 x2 (ix2 (0 : Fin 1) n) = ∑ d : Fin 32, x2 (ix2 d n) * x2 (ix2 d n) := pay5_apply x2 n
  generalize k0_pay4 x0 = z at hz
  generalize k0_pay5 x2 = z2 at he
  pointwise
  simp only [hz, he, hT]
  have hk : Named.named (F := Ideal) κ "mask" (φ := .f32) 1900671690#32 = (⊤ : EReal) := mask_top
  rw [hk]
  have hd : dists (Z b) E 0 n.val = (∑ d : Fin 32, Z b 0 d * Z b 0 d + ∑ d : Fin 32, rows E n.val d * rows E n.val d)
      - two * ∑ d : Fin 32, Z b 0 d * rows E n.val d := rfl
  have hx : ∀ (b : Fin 4) (m : Fin 1024) (d : Fin 32), m.val = b.val * 256 → x0 (ix2 m d) = Z b 0 d := by
    intro b m d hm
    rw [← hZ b 0 d]
    refine congrArg x0 ?_
    congr 1
    exact Fin.ext (by rw [hm]; rfl)
  have hlt := slt_ofNat n.val 8193 (by omega) (by omega)
  rw [hlt, select_ofBool]
  by_cases h : n.val < 8193
  · rw [if_pos (by simpa using h), if_pos h, hd]
    fin_cases b
    all_goals
      simp only [Fin.val_zero, Fin.val_one, Fin.reduceFinMk]
      simp
    · simp only [hx 0 0 _ rfl]
      rfl
    · simp only [hx 1 256 _ rfl]
      rfl
    · simp only [hx 2 512 _ rfl]
      rfl
    · simp only [hx 3 768 _ rfl]
      rfl
  · rw [if_neg (by simpa using h), if_neg h]

theorem pay7_apply (b : Fin 4) :
    k0_pay7 x0 x2 (ix1 b) = Finset.fold min ⊤ (fun n : Fin 9216 => k0_pay6 x0 x2 (ix2 b n)) Finset.univ := by
  unfold k0_pay7
  pointwise
  rw [show Ideal.ofBits FTy.f32 2139095040#32 = ⊤ by simp [Ideal.ofBits, Ideal.ieee]]

theorem pay8_apply (a : IVec S4x9216 32) (b : FVec Ideal S4x9216 .f32) (d : FVec Ideal S4 .f32) (i : Fin 4) :
    k0_pay8 a b d (ix2 i (0 : Fin 1)) = IntOp.minsi (8191#32) (IntOp.maxsi (0#32)
      (Finset.fold IntOp.minsi (2147483647#32) (fun x : Fin 9216 => if b (ix2 i x) = d (ix1 i) then a (ix2 i x) else 9216#32)
          Finset.univ)) := by
  unfold k0_pay8
  pointwise

/-- A small word clipped to `[0, 8191]`. -/
theorem clip_ofNat (n : ℕ) (hn : n < 2 ^ 31) :
    IntOp.minsi (8191#32) (IntOp.maxsi (0#32) (BitVec.ofNat 32 n)) = BitVec.ofNat 32 (min n 8191) := by
  have h1 : (BitVec.ofNat 32 n).toInt = n := toInt_ofNat n hn
  have h0 : (0#32).toInt = 0 := rfl
  have h9 : (8191#32).toInt = 8191 := rfl
  unfold IntOp.minsi IntOp.maxsi
  simp only [BitVec.slt_iff_toInt_lt, h0, h1, if_pos]
  by_cases hz : (n : ℤ) < 0
  · omega
  · rw [if_neg hz, h1, h9]
    split_ifs with h
    · rw [min_eq_right (by omega)]
    · rw [min_eq_left (by omega)]

theorem wordBuf_value (hZ : ∀ (b : Fin 4) (t : Fin 256) (d : Fin 32), x0 (ix2 (⟨b.val * 256 + t.val, row_lt b t⟩ : Fin 1024) d) = Z b t d)
    (hT : ∀ (n : Fin 9216) (d : Fin 32), x2 (ix2 d n) = rows E n.val d) (b : Fin 4) :
    wordBuf x0 x2 (ix b) = BitVec.ofNat 32 (min (first (dists (Z b) E 0)) 8191) := by
  have e : (ix b : S4x1.Idx) = ix2 b (0 : Fin 1) := by
    funext a; fin_cases a <;> rfl
  rw [e]
  unfold wordBuf
  rw [pay8_apply, pay7_apply]
  simp only [pay6_apply x0 x2 Z E hZ hT]
  obtain ⟨hle, m, hm⟩ := fold_min_spec (n := 9216) (by omega) (fun n : Fin 9216 => if n.val < 8193 then dists (Z b) E 0 n.val else (⊤ : EReal))
  generalize dists (Z b) E 0 = f at *
  generalize Finset.fold min ⊤ (fun n : Fin 9216 => if n.val < 8193 then f n.val else (⊤ : EReal)) Finset.univ = μ at *
  have hle' : ∀ i < 8193, μ ≤ f i := fun i hi => by
    have := hle ⟨i, by omega⟩
    rwa [if_pos hi] at this
  have hex : ∃ i, i < 8193 ∧ f i = μ := by
    by_cases h : m.val < 8193
    · rw [if_pos h] at hm
      exact ⟨m.val, h, hm.symm⟩
    · rw [if_neg h] at hm
      have := hle' 0 (by omega)
      rw [hm] at this ⊢
      exact ⟨0, by omega, top_le_iff.mp this⟩
  classical
  obtain ⟨hj, hjm⟩ := Nat.find_spec hex
  have hbefore : ∀ i < Nat.find hex, ¬ (i < 8193 ∧ f i = μ) := fun i hi => Nat.find_min hex hi
  generalize Nat.find hex = j at *
  have hfirst : IsFirst f j := by
    refine ⟨hj, fun i hi => hjm ▸ hle' i hi, fun i hi => ?_⟩
    rw [hjm]
    exact lt_of_le_of_ne (hle' i (by omega)) fun h => hbefore i hi ⟨by omega, h.symm⟩
  rw [hfirst.eq]
  have hfold := fold_minsi (n := 9216) (fun x => if (if x.val < 8193 then f x.val else (⊤ : EReal)) = μ then x.val else 9216)
    (fun x => by have := x.isLt; split_ifs <;> omega) j
    ⟨⟨j, by omega⟩, by simp only [if_pos hj, if_pos hjm]⟩
    (fun x => by
      by_cases h : x.val < 8193
      · rw [if_pos h]
        split_ifs with h2
        · by_contra hlt
          exact hbefore x.val (by omega) ⟨h, h2⟩
        · omega
      · split_ifs <;> omega)
  have hi : ∀ x : Fin 9216, (iota .tc S4x9216 32 [1] iota_S4x9216_d1_w32 : IVec S4x9216 32) (ix2 b x) = BitVec.ofNat 32 x.val := by
    intro x
    pointwise
  rw [← clip_ofNat j (by omega), ← hfold]
  refine congrArg (fun g : Fin 9216 → BitVec 32 => IntOp.minsi (8191#32) (IntOp.maxsi (0#32) (Finset.fold IntOp.minsi (2147483647#32) g Finset.univ)))
    (funext fun x => ?_)
  rw [hi]
  split_ifs <;> rfl

end Values

end Cert.KernelIdeal.Hand
-- ==== Proof.KI.Ends.lean ====
/- What the kernel's program makes of its arguments before the body, and what its results hold after it. -/
module

public import proofs.«01_k».proof.Proof.KI.Frame
public import proofs.«01_k».proof.Proof.KI.Argmin
public import Idealize.ShloMosaic.Lib.Pipeline.ValueKit.Geometry
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.TcCoe Idealize.ShloMosaic.Tactic Idealize.SL.Sem Cert.Path
open Idealize.ShloMosaic.StableHlo (after)

variable (m : (ℓ : Loc nD τ sig) → Buf (Elt Ideal) ℓ) (ρ : Dev nD → PrngReg) (c : Dev nD)

/-- The first argument's vectors. -/
noncomputable def vecs (b : Fin 4) (t : Fin 256) (d : Fin 32) : EReal :=
  (m ((c : Thread nD τ).loc main_arg0) : FVec Ideal S4x256x32 .f32) (ix3 b t d)
/-- The second argument's code vectors. -/
noncomputable def book (n : Fin 8193) (d : Fin 32) : EReal :=
  (m ((c : Thread nD τ).loc main_arg1) : FVec Ideal S8193x32 .f32) (ix2 n d)

/-! ## The staged inputs -/

theorem X0_eq : X0 m c = shapeCast S1024x32 (m ((c : Thread nD τ).loc main_arg0) : FVec Ideal S4x256x32 .f32) shapeCasts_S4x256x32_S1024x32 := by
  have e : X0 m c = (after (List.flatten [hostOps0, hostOps0_1, hostOps0_2]) (fun b => m (c, b)) (Proc.devRef .tc main_v0) : FVec Ideal S1024x32 .f32) := by
    unfold X0 iblk
    funext i
    refine congrArg (V m c main_v0) (funext fun a => Fin.ext ?_)
    blk_simp
    have z : ∀ a, win0_0.index t0_0 a = 0 := by decide +kernel
    rw [z a]
    omega
  rw [e]
  simp only [List.flatten_cons, List.flatten_nil, List.append_nil, List.cons_append, List.nil_append]
  after_reads_simp
  rfl

/-- The padded code vectors. -/
noncomputable def padded : FVec Ideal S9216x32 .f32 :=
  pad S9216x32 ![0, 0] ![1023, 0] ![0, 0] (m ((c : Thread nD τ).loc main_arg1) : FVec Ideal S8193x32 .f32) (sitofp .f32 (constantI S_ 32 0#32)) pads_S8193x32_S9216x32_010230_000 h_S_

theorem X1_eq : X1 m c = padded m c := by
  have e : X1 m c = (after (List.flatten [hostOps0, hostOps0_1, hostOps0_2]) (fun b => m (c, b)) (Proc.devRef .tc main_v1) : FVec Ideal S9216x32 .f32) := by
    unfold X1 iblk
    funext i
    refine congrArg (V m c main_v1) (funext fun a => Fin.ext ?_)
    blk_simp
    have z : ∀ a, win0_1.index t0_0 a = 0 := by decide +kernel
    rw [z a]
    omega
  rw [e]
  simp only [List.flatten_cons, List.flatten_nil, List.append_nil, List.cons_append, List.nil_append]
  after_reads_simp
  rfl

theorem X2_eq : X2 m c = transpose S32x9216 [1, 0] (padded m c) transposes_S9216x32_S32x9216_1_0 := by
  have e : X2 m c = (after (List.flatten [hostOps0, hostOps0_1, hostOps0_2]) (fun b => m (c, b)) (Proc.devRef .tc main_v2) : FVec Ideal S32x9216 .f32) := by
    unfold X2 iblk
    funext i
    refine congrArg (V m c main_v2) (funext fun a => Fin.ext ?_)
    blk_simp
    have z : ∀ a, win0_2.index t0_0 a = 0 := by decide +kernel
    rw [z a]
    omega
  rw [e]
  simp only [List.flatten_cons, List.flatten_nil, List.append_nil, List.cons_append, List.nil_append]
  after_reads_simp
  rfl

theorem flat_rows (A : FVec Ideal S4x256x32 .f32) (b : Fin 4) (t : Fin 256) (d : Fin 32) :
    shapeCast S1024x32 A shapeCasts_S4x256x32_S1024x32 (ix2 (⟨b.val * 256 + t.val, row_lt b t⟩ : Fin 1024) d) = A (ix3 b t d) := by
  pointwise

theorem X0_apply (b : Fin 4) (t : Fin 256) (d : Fin 32) :
    X0 m c (ix2 (⟨b.val * 256 + t.val, row_lt b t⟩ : Fin 1024) d) = vecs m c b t d := by
  rw [X0_eq]
  exact flat_rows _ b t d

theorem pad_rows (A : FVec Ideal S8193x32 .f32) (n : Fin 9216) (d : Fin 32) :
    pad S9216x32 ![0, 0] ![1023, 0] ![0, 0] A (sitofp .f32 (constantI S_ 32 0#32)) pads_S8193x32_S9216x32_010230_000 h_S_ (ix2 n d)
      = rows (fun n d => A (ix2 n d)) n.val d := by
  unfold rows
  by_cases h : n.val < 8193
  · rw [dif_pos h]
    pointwise
    rw [dif_pos h]
  · rw [dif_neg h]
    pointwise
    rw [dif_neg h]
    show (((0#32 : BitVec 32).toInt : ℝ) : EReal) = 0
    simp

theorem padded_apply (n : Fin 9216) (d : Fin 32) : padded m c (ix2 n d) = rows (book m c) n.val d :=
  pad_rows _ n d

theorem X1_apply (n : Fin 9216) (d : Fin 32) : X1 m c (ix2 n d) = rows (book m c) n.val d := by
  rw [X1_eq, padded_apply]

theorem X2_apply (n : Fin 9216) (d : Fin 32) : X2 m c (ix2 d n) = rows (book m c) n.val d := by
  rw [X2_eq, ← padded_apply]
  generalize padded m c = A
  pointwise

/-! ## The results -/

/-- What the program leaves at its four results. -/
theorem ends : θ_run defs (onTc (τ := τ) (main (F := Ideal))) ⟨m, fun _ => 0, ρ⟩ (fun r => ∀ c : Dev nD,
      r.2.mem ((c.tc : Thread nD τ).loc main_v4) = (shapeCast S4x256x32 (out3 c (X0 m c) (X1 m c) (X2 m c)) shapeCasts_S1024x32_S4x256x32 : FVec Ideal S4x256x32 .f32)
      ∧ r.2.mem ((c.tc : Thread nD τ).loc main_v5) = (shapeCast S_ (out5 c (X0 m c) (X1 m c) (X2 m c)) shapeCasts_S1x1_S_ : FVec Ideal S_ .f32)
      ∧ r.2.mem ((c.tc : Thread nD τ).loc main_v3_1) = out4 c (X0 m c) (X1 m c) (X2 m c)
      ∧ r.2.mem ((c.tc : Thread nD τ).loc main_v6) = (shapeCast S_ (out6 c (X0 m c) (X1 m c) (X2 m c)) shapeCasts_S1x1_S_ : IVec S_ 32)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hinj : Function.Injective (Pipeline.arrRef spec0) := by decide
  have a3 : ∀ c, (dats m 0 c).arrAt 3 cfg0.N = out3 c (X0 m c) (X1 m c) (X2 m c) := fun c => by
    refine (dats m 0 c).arrAt_eq_of_after_last 3 t0_0 (by decide +kernel) _ (fun j => ?_)
    rw [after_3]; rfl
  have a4 : ∀ c, (dats m 0 c).arrAt 4 cfg0.N = out4 c (X0 m c) (X1 m c) (X2 m c) := fun c => by
    refine (dats m 0 c).arrAt_eq_of_after_last 4 t0_0 (by decide +kernel) _ (fun j => ?_)
    rw [after_4]; rfl
  have a5 : ∀ c, (dats m 0 c).arrAt 5 cfg0.N = out5 c (X0 m c) (X1 m c) (X2 m c) := fun c => by
    refine (dats m 0 c).arrAt_eq_of_after_last 5 t0_0 (by decide +kernel) _ (fun j => ?_)
    rw [after_5]; rfl
  have a6 : ∀ c, (dats m 0 c).arrAt 6 cfg0.N = out6 c (X0 m c) (X1 m c) (X2 m c) := fun c => by
    refine (dats m 0 c).arrAt_eq_of_after_last 6 t0_0 (by decide +kernel) _ (fun j => ?_)
    rw [after_6]; rfl
  refine (θ_run defs _ _).mono (fun r h c => ⟨?_, ?_, ?_, ?_,
    ((h.1 c).2 main_arg0 (Pipeline.mem_restRefs_of main_arg0 (by decide) (by decide))).trans (W_arg0 m c),
    ((h.1 c).2 main_arg1 (Pipeline.mem_restRefs_of main_arg1 (by decide) (by decide))).trans (W_arg1 m c)⟩) (run_main m ρ)
  · refine ((h.1 c).2 main_v4 (Pipeline.mem_restRefs_of main_v4 (by decide) (by decide))).trans ?_
    have e := (Pipeline.withArrays_arr spec0 hinj c (V0 m c) (fun w => (dats m 0 c).arrAt w cfg0.N) 3).trans (a3 c)
    unfold Pipeline.afterTail₀
    change after hostOps1 (Pipeline.withArrays spec0 c (V0 m c) fun w => (dats m 0 c).arrAt w cfg0.N) (Proc.devRef .tc main_v4) = _
    generalize (Pipeline.withArrays spec0 c (V0 m c) fun w => (dats m 0 c).arrAt w cfg0.N) = X at e
    after_reads_simp
    exact congrArg (fun v : FVec Ideal S1024x32 .f32 => shapeCast S4x256x32 v shapeCasts_S1024x32_S4x256x32) e
  · refine ((h.1 c).2 main_v5 (Pipeline.mem_restRefs_of main_v5 (by decide) (by decide))).trans ?_
    have e := (Pipeline.withArrays_arr spec0 hinj c (V0 m c) (fun w => (dats m 0 c).arrAt w cfg0.N) 5).trans (a5 c)
    unfold Pipeline.afterTail₀
    change after hostOps1 (Pipeline.withArrays spec0 c (V0 m c) fun w => (dats m 0 c).arrAt w cfg0.N) (Proc.devRef .tc main_v5) = _
    generalize (Pipeline.withArrays spec0 c (V0 m c) fun w => (dats m 0 c).arrAt w cfg0.N) = X at e
    after_reads_simp
    exact congrArg (fun v : FVec Ideal S1x1 .f32 => shapeCast S_ v shapeCasts_S1x1_S_) e
  · exact ((h.1 c).1 4).trans (a4 c)
  · refine ((h.1 c).2 main_v6 (Pipeline.mem_restRefs_of main_v6 (by decide) (by decide))).trans ?_
    have e := (Pipeline.withArrays_arr spec0 hinj c (V0 m c) (fun w => (dats m 0 c).arrAt w cfg0.N) 6).trans (a6 c)
    unfold Pipeline.afterTail₀
    change after hostOps1 (Pipeline.withArrays spec0 c (V0 m c) fun w => (dats m 0 c).arrAt w cfg0.N) (Proc.devRef .tc main_v6) = _
    generalize (Pipeline.withArrays spec0 c (V0 m c) fun w => (dats m 0 c).arrAt w cfg0.N) = X at e
    after_reads_simp
    exact congrArg (fun v : IVec S1x1 32 => shapeCast S_ v shapeCasts_S1x1_S_) e

end Cert.KernelIdeal.Hand

end
-- ==== Proof.KI.Out.lean ====
/- The kernel's codes, their spread and its quantised vectors, read off what the body leaves. -/
module

public import proofs.«01_k».proof.Proof.KI.Ends
public import proofs.«01_k».proof.Proof.KI.Dist

@[expose] public section

set_option maxRecDepth 16384

noncomputable section

namespace Cert.KernelIdeal.Hand

open Cert.KernelIdeal Cert.KernelIdeal.Gen Idealize.ShloMosaic Cert.Path
open kernelRun.sl

/-! ## The code vector of a code, picked by a product with zeros and a one -/

/-- The rows of a window that a row of codes names. -/
noncomputable def pick (k : IVec S4x256 32) (win : FVec Ideal S384x32 .f32) (b : ℕ) (h : S4x256.Slices ![b, 0] S1x256) : FVec Ideal S256x32 .f32 :=
  matmul dot_S256x384_S384x32_S256x32_1_0_0_1_n_n none (sitofp .f32 (extui 32 (cmpi .eq (iota .tc S256x384 32 [1] iota_S256x384_d1_w32)
    (broadcastTo S256x384 (shapeCast S256x1 (shapeCast S256 (extractStridedSlice S1x256 ![b, 0] k h) shapeCasts_S1x256_S256)
      shapeCasts_S256_S256x1) broadcasts_S256x1_S256x384)) natLt_1_32)) win (constant S256x32 .f32 0x00000000#32)

theorem hot (i n : ℕ) (hi : i < 384) (hn : n < 384) :
    (FloatOps.sitofp (F := Ideal) FTy.f32 (BitVec.setWidth 32 (IntOp.cmpi CmpIPredicate.eq (BitVec.ofNat 32 i) (BitVec.ofNat 32 n))) : EReal)
      = if i = n then 1 else 0 := by
  have e : (BitVec.ofNat 32 i == BitVec.ofNat 32 n) = decide (i = n) := by
    by_cases h : i = n
    · simp [h]
    · have h' : BitVec.ofNat 32 i ≠ BitVec.ofNat 32 n := fun h' => h (by
        have := congrArg BitVec.toNat h'
        simp only [BitVec.toNat_ofNat] at this
        omega)
      simp [h, h']
  show ((((BitVec.setWidth 32 (BitVec.ofBool (BitVec.ofNat 32 i == BitVec.ofNat 32 n))).toInt : ℝ)) : EReal) = _
  rw [e]
  by_cases h : i = n <;> simp [h]

theorem sum_hot (n : Fin 384) (g : Fin 384 → EReal) : ∑ i : Fin 384, (if i.val = n.val then (1 : EReal) else 0) * g i = g n := by
  rw [Finset.sum_eq_single n]
  · rw [if_pos rfl, one_mul]
  · intro i _ hi
    rw [if_neg (fun h => hi (Fin.ext h)), zero_mul]
  · intro h
    exact absurd (Finset.mem_univ _) h

theorem pick_apply (k : IVec S4x256 32) (win : FVec Ideal S384x32 .f32) (b : Fin 4) (h : S4x256.Slices ![b.val, 0] S1x256) (t : Fin 256) (d : Fin 32)
    (n : Fin 384) (hk : k (ix2 b t) = BitVec.ofNat 32 n.val) : pick k win b.val h (ix2 t d) = win (ix2 n d) := by
  unfold pick
  pointwise
  rw [hk]
  have e : ∀ x : Fin 384, (FloatOps.sitofp (F := Ideal) FTy.f32 (BitVec.setWidth 32 (IntOp.cmpi CmpIPredicate.eq (BitVec.ofNat 32 x.val) (BitVec.ofNat 32 n.val))) : EReal)
      = if x.val = n.val then 1 else 0 := fun x => hot _ _ x.isLt n.isLt
  simp only [e]
  exact sum_hot n fun i => win (ix2 i d)

/-- The four rows of vectors one below the other. -/
theorem four_apply (p0 p1 p2 p3 : FVec Ideal S256x32 .f32) (b : Fin 4) (t : Fin 256) (d : Fin 32) :
    concatenate S1024x32 0 [⟨S256x32, p0⟩, ⟨S256x32, p1⟩, ⟨S256x32, p2⟩, ⟨S256x32, p3⟩] concatenates_S256x32_S256x32_S256x32_S256x32_S1024x32_d0
      (ix2 (⟨b.val * 256 + t.val, row_lt b t⟩ : Fin 1024) d) = (match b with | 0 => p0 | 1 => p1 | 2 => p2 | 3 => p3) (ix2 t d) := by
  pointwise
  fin_cases b
  all_goals
    have ht := t.isLt
    simp only [Fin.zero_eta, Fin.mk_one, Fin.val_zero, Fin.val_one, Fin.reduceFinMk, zero_mul, one_mul, zero_add]
  · rw [dif_pos ht]
  · rw [dif_neg (by omega), dif_pos (by omega)]
    simp only [Nat.add_sub_cancel_left]
  · rw [dif_neg (by show ¬ 2 * 256 + t.val < 256; omega), dif_neg (by show ¬ 2 * 256 + t.val - 256 < 256; omega), dif_pos (by show 2 * 256 + t.val - 256 - 256 < 256; omega)]
    refine congrArg p2 ?_
    congr 1
    exact Fin.ext (by show 2 * 256 + t.val - 256 - 256 = t.val; omega)
  · rw [dif_neg (by show ¬ 3 * 256 + t.val < 256; omega), dif_neg (by show ¬ 3 * 256 + t.val - 256 < 256; omega), dif_neg (by show ¬ 3 * 256 + t.val - 256 - 256 < 256; omega)]
    refine congrArg p3 ?_
    congr 1
    exact Fin.ext (by show 3 * 256 + t.val - 256 - 256 - 256 = t.val; omega)

/-! ## The spread -/

/-- A fold over the elements does not depend on the arrangement into rows. -/
theorem fold_reshape {s t u : Shape} [Subsingleton t.Idx] {axes : List (Fin s.rank)} (op : BitVec 32 → BitVec 32 → BitVec 32) [Std.Commutative op] [Std.Associative op]
    (a : BitVec 32) (k : IVec u 32) (hc : u.ShapeCasts s) (h : s.Reduces axes t) (j : t.Idx) :
    (Finset.univ.filter fun i => h.drop i = j).fold op a (shapeCast s k hc) = Finset.univ.fold op a k := by
  have e : (Finset.univ.filter fun i => h.drop i = j) = Finset.univ := Finset.filter_true_of_mem fun i _ => Subsingleton.elim _ _
  rw [e]
  have e2 : (Finset.univ : Finset u.Idx) = Finset.univ.map (Shape.reshapeEquiv hc).toEmbedding := (Finset.map_univ_equiv _).symm
  rw [e2, Finset.fold_map]
  rfl

/-! ## What the body leaves -/

section Values

variable (c : Dev nD) (x0 : Vec Ideal S1024x32 .f32) (x1 : Vec Ideal S9216x32 .f32) (x2 : Vec Ideal S32x9216 .f32) (w : Vec Ideal S4x1 .i32) (hw : ∀ i, (w i).toNat ≤ 8191)
variable (Z : Fin 4 → Fin 256 → Fin 32 → EReal) (E : Fin 8193 → Fin 32 → EReal)

/-- The codes the body leaves, one operation from their parts. -/
theorem out4_eq : out4 c x0 x1 x2 = v1432 x0 x1 (wordBuf x0 x2) (wordBuf_le x0 x2) :=
  (out4_spec c x0 x1 x2 (fun _ => 0#32)).symm.trans (View.read_writes_full wi.view _ inb_S4x256_S4x256_0_0 _ [])

theorem out6_eq : out6 c x0 x1 x2 = fun _ => v1442 x0 x1 (wordBuf x0 x2) (wordBuf_le x0 x2) :=
  (out6_spec c x0 x1 x2 (fun _ => 0#32)).symm.trans (View.read_writes_full wv.view _ inb_S1x1_S1x1_0_0 _ [])

theorem out5_eq : out5 c x0 x1 x2 = fun _ => k0_pay1 (r_22 x0 x1 x2 (wordBuf x0 x2) (wordBuf_le x0 x2)) :=
  (out5_spec c x0 x1 x2 (fun _ => (0 : EReal))).symm.trans (View.read_writes_full wl.view _ inb_S1x1_S1x1_0_0 _ [])

/-- The four rows' picked code vectors. -/
noncomputable def picked : FVec Ideal S1024x32 .f32 :=
  k0_pay188 (v107 x1 w hw) (v126 x1 w hw) (v1430 x0 x1 w hw) (v1452 x0 x1 w hw) (v1461 x0 x1 w hw) (v1467 x0 x1 w hw)

theorem out3_eq : out3 c x0 x1 x2 = addf (r x0) (subf (picked x0 x1 (wordBuf x0 x2) (wordBuf_le x0 x2)) (r x0)) :=
  (out3_spec c x0 x1 x2 (fun _ => (0 : EReal))).symm.trans (View.read_writes_full wq.view _ inb_S1024x32_S1024x32_0_0 _ [])

/-- The spread is the largest code less the smallest. -/
theorem out6_spread : out6 c x0 x1 x2 = fun _ => Scalar.subi
    (Finset.univ.fold IntOp.maxsi 2147483648#32 (out4 c x0 x1 x2)) (Finset.univ.fold IntOp.minsi 2147483647#32 (out4 c x0 x1 x2)) := by
  rw [out6_eq, out4_eq]
  funext _
  unfold v1442 v1437 v1441 v1436 v1440 v1435 v1439 v1434
  generalize v1432 x0 x1 (wordBuf x0 x2) (wordBuf_le x0 x2) = K
  have h1 : ∀ j : S1.Idx, multiReductionI IKind.maxsi [1, 2] S1 (shapeCast S1x4x256 K shapeCasts_S4x256_S1x4x256) 2147483648#32 reduces_S1x4x256_S1 rfl j
      = Finset.univ.fold IntOp.maxsi 2147483648#32 K := fun j => by
    haveI : Subsingleton S1.Idx := ⟨fun a b => by funext i; fin_cases i; exact Subsingleton.elim (α := Fin 1) _ _⟩
    refine (multiReductionI_eq_fold IKind.maxsi _ _ _ rfl j).trans ?_
    exact fold_reshape IntOp.maxsi _ K shapeCasts_S4x256_S1x4x256 reduces_S1x4x256_S1 j
  have h2 : ∀ j : S1.Idx, multiReductionI IKind.minsi [1, 2] S1 (shapeCast S1x4x256 K shapeCasts_S4x256_S1x4x256) 2147483647#32 reduces_S1x4x256_S1 rfl j
      = Finset.univ.fold IntOp.minsi 2147483647#32 K := fun j => by
    haveI : Subsingleton S1.Idx := ⟨fun a b => by funext i; fin_cases i; exact Subsingleton.elim (α := Fin 1) _ _⟩
    refine (multiReductionI_eq_fold IKind.minsi _ _ _ rfl j).trans ?_
    exact fold_reshape IntOp.minsi _ K shapeCasts_S4x256_S1x4x256 reduces_S1x4x256_S1 j
  exact congrArg₂ Scalar.subi (h1 _) (h2 _)

/-- The code of a row at a time, less the row's first code. -/
theorem v1430_path (hZ : ∀ (b : Fin 4) (t : Fin 256) (d : Fin 32), x0 (ix2 (⟨b.val * 256 + t.val, row_lt b t⟩ : Fin 1024) d) = Z b t d)
    (hE : ∀ (n : Fin 9216) (d : Fin 32), x1 (ix2 n d) = rows E n.val d)
    (hs : ∀ b, w (ix b) = BitVec.ofNat 32 (min (first (dists (Z b) E 0)) 8191)) (b : Fin 4) (t : Fin 256) :
    ∃ n : Fin 384, v1430 x0 x1 w hw (ix2 b t) = BitVec.ofNat 32 n.val ∧ (w (ix b)).toNat + n.val = code (dists (Z b) E) t.val := by
  have hs' : ∀ b, (w (ix b)).toNat = min (first (dists (Z b) E 0)) 8191 := by
    intro b
    rw [hs b, BitVec.toNat_ofNat, Nat.mod_eq_of_lt (by have := min_le_right (first (dists (Z b) E 0)) 8191; omega)]
  have hA : ∀ b t k, jumps (dists (Z b) E) (w (ix b)).toNat t k ≤ 1 := fun b t k => by unfold jumps; split_ifs <;> omega
  have hV := v1430_value x0 x1 w hw (A := fun b => jumps (dists (Z b) E) (w (ix b)).toNat) hA
    (fun t b k => by
      rw [v173_apply, allD_apply x0 x1 w Z E hZ hE hw, allD_apply x0 x1 w Z E hZ hE hw]
      rfl) b t
  have hl := walk_le (jumps (dists (Z b) E) (w (ix b)).toNat) (hA b) 0 0 (t.val + 1)
  have ht := t.isLt
  refine ⟨⟨walk (jumps (dists (Z b) E) (w (ix b)).toNat) 0 0 (t.val + 1), by omega⟩, hV, ?_⟩
  rw [code_eq_walk _ _ (hs' b) _ t.isLt]

theorem v69_eq : v69 x1 w hw = win x1 (w (ix 0)).toNat := by
  rw [← readAt_we x1 (k0_off1 (w (ix 0))) (rows_inb (hw _)) (w (ix 0)).toNat (hw _) rfl]
  exact shapeCast_self _ _
theorem v88_eq : v88 x1 w hw = win x1 (w (ix 1)).toNat := by
  rw [← r_7_eq w, ← readAt_we x1 (k0_off2 (r_7 w)) (rows_inb (hw _)) (r_7 w).toNat (hw _) rfl]
  exact shapeCast_self _ _
theorem v107_eq : v107 x1 w hw = win x1 (w (ix 2)).toNat := by
  rw [← r_8_eq w, ← readAt_we x1 (k0_off3 (r_8 w)) (rows_inb (hw _)) (r_8 w).toNat (hw _) rfl]
  exact shapeCast_self _ _
theorem v126_eq : v126 x1 w hw = win x1 (w (ix 3)).toNat := by
  rw [← r_9_eq w, ← readAt_we x1 (k0_off4 (r_9 w)) (rows_inb (hw _)) (r_9 w).toNat (hw _) rfl]
  exact shapeCast_self _ _

/-- The picked code vectors are the codes' own. -/
theorem picked_value (hZ : ∀ (b : Fin 4) (t : Fin 256) (d : Fin 32), x0 (ix2 (⟨b.val * 256 + t.val, row_lt b t⟩ : Fin 1024) d) = Z b t d)
    (hE : ∀ (n : Fin 9216) (d : Fin 32), x1 (ix2 n d) = rows E n.val d)
    (hs : ∀ b, w (ix b) = BitVec.ofNat 32 (min (first (dists (Z b) E 0)) 8191)) (b : Fin 4) (t : Fin 256) (d : Fin 32) :
    picked x0 x1 w hw (ix2 (⟨b.val * 256 + t.val, row_lt b t⟩ : Fin 1024) d) = rows E (code (dists (Z b) E) t.val) d := by
  have e : picked x0 x1 w hw = concatenate S1024x32 0
      [⟨S256x32, pick (v1430 x0 x1 w hw) (win x1 (w (ix 0)).toNat) 0 slices_S4x256_o0_0_S1x256⟩, ⟨S256x32, pick (v1430 x0 x1 w hw) (win x1 (w (ix 1)).toNat) 1 slices_S4x256_o1_0_S1x256⟩,
       ⟨S256x32, pick (v1430 x0 x1 w hw) (win x1 (w (ix 2)).toNat) 2 slices_S4x256_o2_0_S1x256⟩, ⟨S256x32, pick (v1430 x0 x1 w hw) (win x1 (w (ix 3)).toNat) 3 slices_S4x256_o3_0_S1x256⟩]
      concatenates_S256x32_S256x32_S256x32_S256x32_S1024x32_d0 := by
    rw [← v69_eq x1 w hw, ← v88_eq x1 w hw, ← v107_eq x1 w hw, ← v126_eq x1 w hw]
    rfl
  rw [e, four_apply]
  obtain ⟨n, h1, h2⟩ := v1430_path x0 x1 w hw Z E hZ hE hs b t
  rw [← h2]
  have hr : win (F := Ideal) x1 (w (ix b)).toNat (ix2 n d) = rows E ((w (ix b)).toNat + n.val) d := by
    rw [win_apply x1 _ (hw _), hE]
  rw [← hr]
  fin_cases b
  · exact pick_apply _ _ 0 _ t d n h1
  · exact pick_apply _ _ 1 _ t d n h1
  · exact pick_apply _ _ 2 _ t d n h1
  · exact pick_apply _ _ 3 _ t d n h1

end Values

end Cert.KernelIdeal.Hand

end
-- ==== Proof.Loss.lean ====
/- The loss, as plain mathematics: what a vector and a code add to it, in the two ways the programs add it up. -/
module

public import proofs.«01_k».proof.Proof.Path

@[expose] public section

noncomputable section

namespace Cert.Path

open Idealize.ShloMosaic

/-- The small term under the clip, as both programs write it. -/
noncomputable def eps : EReal := Ideal.ofBits FTy.f32 0x2F0637BD#32

/-- The number of terms in the mean, as both programs write it. -/
noncomputable def terms : EReal := Ideal.ofBits FTy.f32 0x4B000400#32

/-- How much farther than the code `e` the chosen code `q` lies from `z`, clipped at zero. -/
noncomputable def gap (z q e : Fin 32 → EReal) : EReal := max ((∑ d, (z d - q d) * (z d - q d) - dist z e) + eps) 0

/-- The mean gap over all vectors and codes. -/
noncomputable def meanGap (Z : Fin 4 → Fin 256 → Fin 32 → EReal) (E : Fin 8193 → Fin 32 → EReal) : EReal :=
  Ideal.div (∑ b, ∑ t : Fin 256, ∑ n, gap (Z b t) (rows E (code (dists (Z b) E) t.val)) (E n)) terms

theorem eps_real : ∃ r : ℝ, eps = (r : EReal) := by
  unfold eps
  simp [Ideal.ofBits, Ideal.ieee]
  exact ⟨_, (EReal.coe_mul _ _).symm⟩

theorem two_eq : two = ((2 : ℝ) : EReal) := by
  unfold two
  simp only [Ideal.ofBits, Ideal.ieee]
  simp
  rw [← EReal.coe_mul]
  norm_num

theorem sum_coe {n : ℕ} (f : Fin n → ℝ) : ∑ d, (f d : EReal) = ((∑ d, f d : ℝ) : EReal) := by
  induction n with
  | zero => simp
  | succ n ih => rw [Fin.sum_univ_succ, Fin.sum_univ_succ, ih, EReal.coe_add]

/-- For real entries the terms may be added up in the other order, with the factor two on the vector. -/
theorem gap_eq (z q e : Fin 32 → EReal) (hz : ∀ d, ∃ r : ℝ, z d = r) (hq : ∀ d, ∃ r : ℝ, q d = r) (he : ∀ d, ∃ r : ℝ, e d = r) :
    gap z q e = max ((((∑ d, (z d - q d) * (z d - q d) + eps) - ∑ d, z d * z d) + ∑ d, (z d + z d) * e d) - ∑ d, e d * e d) 0 := by
  choose z' hz using hz
  choose q' hq using hq
  choose e' he using he
  obtain ⟨ε, hε⟩ := eps_real
  unfold gap dist
  simp only [hz, hq, he, hε, two_eq, ← EReal.coe_sub, ← EReal.coe_mul, ← EReal.coe_add, sum_coe]
  refine congrArg (max · 0) (congrArg Real.toEReal ?_)
  have h : ∑ d, (z' d + z' d) * e' d = 2 * ∑ d, z' d * e' d := by
    rw [Finset.mul_sum]
    exact Finset.sum_congr rfl fun d _ => by ring
  rw [h]
  ring

theorem sub_top (x : EReal) : x - ⊤ = ⊥ := by
  rw [sub_eq_add_neg, EReal.neg_top, EReal.add_bot]

/-- A sum over 9216 lanes, eight blocks of 1152 one after another, of which only the first 8193 count. -/
theorem sum_blocks (g : ℕ → EReal) (h : ∀ n, 8193 ≤ n → g n = 0) (s : ℕ → EReal) (hs : ∀ o, s o = ∑ l : Fin 1152, g (o + l.val)) :
    ((((((((0 + s 0) + s 1152) + s 2304) + s 3456) + s 4608) + s 5760) + s 6912) + s 8064) = ∑ n : Fin 8193, g n.val := by
  have hr : ∀ o, s o = ∑ l ∈ Finset.range 1152, g (o + l) := fun o => by
    rw [hs, Finset.sum_range]
  have hb : ∀ o, ∑ n ∈ Finset.range o, g n + s o = ∑ n ∈ Finset.range (o + 1152), g n := fun o => by
    rw [Finset.sum_range_add, hr]
  have h0 : (0 : EReal) = ∑ n ∈ Finset.range 0, g n := by simp
  rw [h0, hb 0, hb 1152, hb 2304, hb 3456, hb 4608, hb 5760, hb 6912, hb 8064, ← Finset.sum_range (n := 8193) (f := g)]
  rw [show 8064 + 1152 = 8193 + 1023 from rfl, Finset.sum_range_add, Finset.sum_eq_zero (s := Finset.range 1023) fun x _ => h _ (by omega), add_zero]

/-- A sum over 1024 rows, in four sequences of 256. -/
theorem sum_rows (f : Fin 1024 → EReal) : ∑ q, f q = ∑ b : Fin 4, ∑ t : Fin 256, f ⟨b.val * 256 + t.val, by omega⟩ := by
  rw [← (finProdFinEquiv (m := 4) (n := 256)).sum_comp f, Fintype.sum_prod_type]
  refine Finset.sum_congr rfl fun b _ => Finset.sum_congr rfl fun t _ => congrArg f (Fin.ext ?_)
  show t.val + 256 * b.val = b.val * 256 + t.val
  omega

end Cert.Path

end
-- ==== Proof.KI.Loss.lean ====
/- The kernel's loss: eight blocks of lanes, each added up over its codes, and the mean over all of them. -/
module

public import proofs.«01_k».proof.Proof.KI.Out
public import proofs.«01_k».proof.Proof.KI.Argmin
public import proofs.«01_k».proof.Proof.Loss

@[expose] public section

set_option maxRecDepth 16384

noncomputable section

namespace Cert.KernelIdeal.Hand

open Cert.KernelIdeal Cert.KernelIdeal.Gen Idealize.ShloMosaic Cert.Path
open kernelRun.sl

/-- One block of lanes, from lane `o` on: the column, the product with the book, less the squared norms, clipped. -/
noncomputable def block (v3 : FVec Ideal S32x9216 .f32) (v29 : FVec Ideal S1x9216 .f32) (z2 : FVec Ideal S1024x32 .f32) (col : FVec Ideal S1024x1 .f32) (o : ℕ)
    (h1 : S32x9216.Slices ![0, o] S32x1152) (h2 : S1x9216.Slices ![0, o] S1x1152) : FVec Ideal S1024x1152 .f32 :=
  maximumf (subf (addf (broadcastTo S1024x1152 col broadcasts_S1024x1_S1024x1152)
      (matmul dot_S1024x32_S32x1152_S1024x1152_1_0_0_1_n_n none z2 (extractStridedSlice S32x1152 ![0, o] v3 h1) (constant S1024x1152 .f32 0x00000000#32)))
    (broadcastTo S1024x1152 (select (cmpi .slt (addi (iota .tc S1x1152 32 [1] iota_S1x1152_d1_w32) (broadcast S1x1152 (BitVec.ofNat 32 o))) (broadcast S1x1152 8193#32))
      (extractStridedSlice S1x1152 ![0, o] v29 h2) (broadcast S1x1152 (Named.named κ "mask" 0x7149F2CA#32 : Ideal FTy.f32))) broadcasts_S1x1152_S1024x1152))
    (broadcast S1024x1152 (Scalar.ofBits .f32 0x00000000#32))

/-- A block's sum over its lanes, row by row. -/
noncomputable def along (x : FVec Ideal S1024x1152 .f32) : FVec Ideal S1024x1 .f32 :=
  shapeCast S1024x1 (multiReduction .add [1] S1024 x 0x00000000#32 reduces_S1024x1152_S1024 (.inl rfl) rfl) shapeCasts_S1024_S1024x1

/-- The mean of a column of sums. -/
noncomputable def mean (x : FVec Ideal S1024x1 .f32) : EReal :=
  Scalar.divf (extractAt ![0, 0, 0] (shapeCast S1x1x1 (multiReduction .add [1, 2] S1 (shapeCast S1x1024x1 x shapeCasts_S1024x1_S1x1024x1) 0x00000000#32
    reduces_S1x1024x1_S1 (.inl rfl) rfl) shapeCasts_S1_S1x1x1) inpos_S1x1x1_p0_0_0) (Scalar.ofBits .f32 0x4B000400#32 : Ideal FTy.f32)

/-- One lane of a row: nothing past the last code. -/
noncomputable def lane (v3 : FVec Ideal S32x9216 .f32) (v29 : FVec Ideal S1x9216 .f32) (z2 : FVec Ideal S1024x32 .f32) (col : FVec Ideal S1024x1 .f32)
    (q : Fin 1024) (n : ℕ) : EReal :=
  if h : n < 8193 then max ((col (ix2 q (0 : Fin 1)) + ∑ d : Fin 32, z2 (ix2 q d) * v3 (ix2 d (⟨n, by omega⟩ : Fin 9216))) - v29 (ix2 (0 : Fin 1) (⟨n, by omega⟩ : Fin 9216))) 0
  else 0

theorem block_apply (v3 : FVec Ideal S32x9216 .f32) (v29 : FVec Ideal S1x9216 .f32) (z2 : FVec Ideal S1024x32 .f32) (col : FVec Ideal S1024x1 .f32) (o : ℕ)
    (ho : o + 1152 ≤ 9216) (h1 h2) (q : Fin 1024) (l : Fin 1152) :
    block v3 v29 z2 col o h1 h2 (ix2 q l) = lane v3 v29 z2 col q (o + l.val) := by
  unfold block lane
  pointwise
  have hw : IntOp.addi (BitVec.ofNat 32 l.val) (BitVec.ofNat 32 o) = BitVec.ofNat 32 (o + l.val) := by
    rw [add_comm o]
    exact (BitVec.ofNat_add _ _).symm
  have e := slt_ofNat (o + l.val) 8193 (by omega) (by omega)
  rw [hw, show IntOp.cmpi CmpIPredicate.slt (BitVec.ofNat 32 (o + l.val)) (8193#32) = _ from e, select_ofBool]
  by_cases h : o + l.val < 8193
  · rw [if_pos (by simpa using h), dif_pos h]
  · rw [if_neg (by simpa using h), dif_neg h, mask_top, sub_top]
    exact max_eq_right bot_le

theorem along_apply (x : FVec Ideal S1024x1152 .f32) (q : Fin 1024) : along x (ix2 q (0 : Fin 1)) = ∑ l : Fin 1152, x (ix2 q l) := by
  unfold along
  pointwise

theorem mean_eq (x : FVec Ideal S1024x1 .f32) : mean x = Ideal.div (∑ q : Fin 1024, x (ix2 q (0 : Fin 1))) terms := by
  unfold mean
  refine congrArg (Ideal.div · terms) ?_
  have e : (shapeCast S1x1x1 (multiReduction .add [1, 2] S1 (shapeCast S1x1024x1 x shapeCasts_S1024x1_S1x1024x1) 0x00000000#32
    reduces_S1x1024x1_S1 (.inl rfl) rfl) shapeCasts_S1_S1x1x1) (ix3 (0 : Fin 1) (0 : Fin 1) (0 : Fin 1)) = ∑ q : Fin 1024, x (ix2 q (0 : Fin 1)) := by
    pointwise
    simp
  rw [← e]
  unfold extractAt
  congr 1
  funext a
  fin_cases a <;> rfl

section Values

variable (x0 : Vec Ideal S1024x32 .f32) (x1 : Vec Ideal S9216x32 .f32) (x2 : Vec Ideal S32x9216 .f32)
  (w : S4x1.Idx → BitVec 32) (hw : ∀ i, (w i).toNat ≤ 8191)

theorem r_22_eq : r_22 x0 x1 x2 w hw = mean (addf (addf (addf (addf (addf (addf (addf (addf (broadcast S1024x1 (Scalar.ofBits .f32 0x00000000#32))
      (along (block (r_1 x2) (r_3 x2) (r_12 x0) (r_13 x0 x1 w hw) 0 slices_S32x9216_o0_0_S32x1152 slices_S1x9216_o0_0_S1x1152)))
      (along (block (r_1 x2) (r_3 x2) (r_12 x0) (r_13 x0 x1 w hw) 1152 slices_S32x9216_o0_1152_S32x1152 slices_S1x9216_o0_1152_S1x1152)))
      (along (block (r_1 x2) (r_3 x2) (r_12 x0) (r_13 x0 x1 w hw) 2304 slices_S32x9216_o0_2304_S32x1152 slices_S1x9216_o0_2304_S1x1152)))
      (along (block (r_1 x2) (r_3 x2) (r_12 x0) (r_13 x0 x1 w hw) 3456 slices_S32x9216_o0_3456_S32x1152 slices_S1x9216_o0_3456_S1x1152)))
      (along (block (r_1 x2) (r_3 x2) (r_12 x0) (r_13 x0 x1 w hw) 4608 slices_S32x9216_o0_4608_S32x1152 slices_S1x9216_o0_4608_S1x1152)))
      (along (block (r_1 x2) (r_3 x2) (r_12 x0) (r_13 x0 x1 w hw) 5760 slices_S32x9216_o0_5760_S32x1152 slices_S1x9216_o0_5760_S1x1152)))
      (along (block (r_1 x2) (r_3 x2) (r_12 x0) (r_13 x0 x1 w hw) 6912 slices_S32x9216_o0_6912_S32x1152 slices_S1x9216_o0_6912_S1x1152)))
      (along (block (r_1 x2) (r_3 x2) (r_12 x0) (r_13 x0 x1 w hw) 8064 slices_S32x9216_o0_8064_S32x1152 slices_S1x9216_o0_8064_S1x1152))) := rfl

theorem readAt_wt : View.readAt (Elt Ideal) wt.view (Rect.unit ![0, 0] S32x9216.size inb_S32x9216_S32x9216_0_0).toLoadRect x2 = x2 := by
  funext j
  show x2 _ = x2 _
  refine congrArg x2 ?_
  funext a
  fin_cases a <;> refine Fin.ext ?_
  · show 0 + 1 * (j 0).val = (j 0).val
    omega
  · show 0 + 1 * (j 1).val = (j 1).val
    omega

theorem r_1_eq : r_1 x2 = x2 := by
  unfold r_1
  rw [readAt_wt]
  funext j
  unfold k0_pay3
  idx_vars j
  pointwise

theorem r_3_eq : r_3 x2 = k0_pay5 x2 := by
  unfold r_3
  rw [readAt_wt]

/-- The column: the squared distance to the picked vector and the small term, less the squared norm. -/
noncomputable def colOf (p : FVec Ideal S1024x32 .f32) (z : FVec Ideal S1024x32 .f32) (s : FVec Ideal S1024x1 .f32) : FVec Ideal S1024x1 .f32 :=
  subf (addf (shapeCast S1024x1 (multiReduction .add [1] S1024 (mulf (subf z p) (subf z p)) 0x00000000#32 reduces_S1024x32_S1024 (.inl rfl) rfl)
    shapeCasts_S1024_S1024x1) (broadcast S1024x1 (Scalar.ofBits .f32 0x2F0637BD#32))) s

theorem colOf_apply (p : FVec Ideal S1024x32 .f32) (z : FVec Ideal S1024x32 .f32) (s : FVec Ideal S1024x1 .f32) (q : Fin 1024) :
    colOf p z s (ix2 q (0 : Fin 1))
      = (∑ d : Fin 32, (z (ix2 q d) - p (ix2 q d)) * (z (ix2 q d) - p (ix2 q d)) + eps) - s (ix2 q (0 : Fin 1)) := by
  unfold colOf
  pointwise
  rfl

theorem r_13_apply (q : Fin 1024) : r_13 x0 x1 w hw (ix2 q (0 : Fin 1))
    = (∑ d : Fin 32, (x0 (ix2 q d) - picked x0 x1 w hw (ix2 q d)) * (x0 (ix2 q d) - picked x0 x1 w hw (ix2 q d)) + eps)
      - ∑ d : Fin 32, x0 (ix2 q d) * x0 (ix2 q d) := by
  have e : r_13 x0 x1 w hw = colOf (picked x0 x1 w hw) (r x0) (r_2 x0) := rfl
  rw [e, colOf_apply, r_eq, r_2_eq, pay4_apply]

theorem r_12_apply (q : Fin 1024) (d : Fin 32) : r_12 x0 (ix2 q d) = x0 (ix2 q d) + x0 (ix2 q d) := by
  have e : r_12 x0 = addf (r x0) (r x0) := rfl
  rw [e, r_eq]
  rfl

variable (Z : Fin 4 → Fin 256 → Fin 32 → EReal) (E : Fin 8193 → Fin 32 → EReal)

/-- The kernel's mean, for real entries. -/
theorem r_22_value (hZ : ∀ (b : Fin 4) (t : Fin 256) (d : Fin 32), x0 (ix2 (⟨b.val * 256 + t.val, row_lt b t⟩ : Fin 1024) d) = Z b t d)
    (hE : ∀ (n : Fin 9216) (d : Fin 32), x1 (ix2 n d) = rows E n.val d)
    (hT : ∀ (n : Fin 9216) (d : Fin 32), x2 (ix2 d n) = rows E n.val d)
    (hs : ∀ b, w (ix b) = BitVec.ofNat 32 (min (first (dists (Z b) E 0)) 8191))
    (fZ : ∀ b t d, ∃ r : ℝ, Z b t d = r) (fE : ∀ n d, ∃ r : ℝ, E n d = r) : r_22 x0 x1 x2 w hw = meanGap Z E := by
  rw [r_22_eq, mean_eq]
  refine congrArg (Ideal.div · terms) ((sum_rows _).trans (Finset.sum_congr rfl fun b _ => Finset.sum_congr rfl fun t _ => ?_))
  have row := sum_blocks (fun n => lane (r_1 x2) (r_3 x2) (r_12 x0) (r_13 x0 x1 w hw) ⟨b.val * 256 + t.val, row_lt b t⟩ n)
    (fun n hn => dif_neg (by omega)) (fun o => ∑ l : Fin 1152, lane (r_1 x2) (r_3 x2) (r_12 x0) (r_13 x0 x1 w hw) ⟨b.val * 256 + t.val, row_lt b t⟩ (o + l.val)) (fun o => rfl)
  have hb : ∀ (o : ℕ) (ho : o + 1152 ≤ 9216) (h1 h2), along (block (r_1 x2) (r_3 x2) (r_12 x0) (r_13 x0 x1 w hw) o h1 h2) (ix2 (⟨b.val * 256 + t.val, row_lt b t⟩ : Fin 1024) (0 : Fin 1))
      = ∑ l : Fin 1152, lane (r_1 x2) (r_3 x2) (r_12 x0) (r_13 x0 x1 w hw) ⟨b.val * 256 + t.val, row_lt b t⟩ (o + l.val) := fun o ho h1 h2 => by
    rw [along_apply]
    exact Finset.sum_congr rfl fun l _ => block_apply _ _ _ _ o ho h1 h2 _ l
  refine Eq.trans ?_ (row.trans (Finset.sum_congr rfl fun n _ => ?_))
  · simp only [← hb 0 (by omega) slices_S32x9216_o0_0_S32x1152 slices_S1x9216_o0_0_S1x1152, ← hb 1152 (by omega) slices_S32x9216_o0_1152_S32x1152 slices_S1x9216_o0_1152_S1x1152,
      ← hb 2304 (by omega) slices_S32x9216_o0_2304_S32x1152 slices_S1x9216_o0_2304_S1x1152, ← hb 3456 (by omega) slices_S32x9216_o0_3456_S32x1152 slices_S1x9216_o0_3456_S1x1152,
      ← hb 4608 (by omega) slices_S32x9216_o0_4608_S32x1152 slices_S1x9216_o0_4608_S1x1152, ← hb 5760 (by omega) slices_S32x9216_o0_5760_S32x1152 slices_S1x9216_o0_5760_S1x1152,
      ← hb 6912 (by omega) slices_S32x9216_o0_6912_S32x1152 slices_S1x9216_o0_6912_S1x1152, ← hb 8064 (by omega) slices_S32x9216_o0_8064_S32x1152 slices_S1x9216_o0_8064_S1x1152]
    rw [← Ideal.ofBits_zero_f32]
    rfl
  · unfold lane
    rw [dif_pos n.isLt, r_13_apply, r_1_eq, r_3_eq, pay5_apply]
    have hp := picked_value x0 x1 w hw Z E hZ hE hs b t
    simp only [r_12_apply, hZ, hp, hT]
    have hn : rows E n.val = E n := by
      unfold rows
      rw [dif_pos n.isLt]
    have hq : ∀ m d, ∃ r : ℝ, rows E m d = r := fun m d => by
      unfold rows
      split
      · exact fE _ _
      · exact ⟨0, rfl⟩
    rw [gap_eq (Z b t) _ (E n) (fZ b t) (hq _) (fE n)]
    simp only [hn]

end Values

end Cert.KernelIdeal.Hand

end
-- ==== Proof.RI.First.lean ====
/- The reference's argmin: of a row of values, the index of the first smallest. -/
module

public import proofs.«01_k».proof.Proof.Gen.ReferenceIdeal.Run
public import proofs.«01_k».proof.Proof.Path
public import Idealize.ShloMosaic.Lib.Pointwise

@[expose] public section

set_option maxRecDepth 16384

noncomputable section

namespace Cert.ReferenceIdeal.Hand

open Cert.ReferenceIdeal Cert.ReferenceIdeal.Gen
open Idealize.ShloMosaic Cert.Path

/-- The argmin's reducer on small indices: the smaller value, and on a tie the smaller index. -/
theorem reducer_apply (a b : EReal) (i n : ℕ) (hi : i < 2 ^ 31) (hn : n < 2 ^ 31) :
    reducer_argmin_f32_i32 (F := Ideal) (a, BitVec.ofNat 32 i) (b, BitVec.ofNat 32 n)
      = (if a < b then a else b, BitVec.ofNat 32 (if a < b ∨ (a = b ∧ i < n) then i else n)) := by
  have h1 : (BitVec.ofNat 32 i).toInt = i := by
    rw [BitVec.toInt_eq_toNat_cond, BitVec.toNat_ofNat, Nat.mod_eq_of_lt (by omega), if_pos (by omega)]
  have h2 : (BitVec.ofNat 32 n).toInt = n := by
    rw [BitVec.toInt_eq_toNat_cond, BitVec.toNat_ofNat, Nat.mod_eq_of_lt (by omega), if_pos (by omega)]
  have h3 : (BitVec.ofNat 32 i).slt (BitVec.ofNat 32 n) = decide (i < n) := by
    rw [Bool.eq_iff_iff, BitVec.slt_iff_toInt_lt, h1, h2, decide_eq_true_iff]
    omega
  unfold reducer_argmin_f32_i32
  simp only [Ideal.cmpf_def, Ideal.cmp, IntOp.cmpi, IntOp.ori, IntOp.andi, h3, Scalar.select]
  by_cases c1 : a < b <;> by_cases c2 : a = b <;> by_cases c3 : i < n <;> simp [c1, c2, c3]

/-- What the fold holds of the terms seen: a value at most each term's, at its index, the earliest of its ties. -/
structure Seen (f : ℕ → EReal) (P : ℕ → Prop) (v : EReal) (j : ℕ) : Prop where
  lt : j < 8193
  one : (v = ⊤ ∧ j = 0) ∨ v = f j
  all : ∀ n, P n → v < f n ∨ (v = f n ∧ j ≤ n)

/-- The fold over a list of indices. -/
theorem fold_seen (f : ℕ → EReal) : ∀ (L : List ℕ) (hL : ∀ n ∈ L, n < 8193) (P : ℕ → Prop) (v : EReal) (j : ℕ), Seen f P v j →
    ∃ v' j', (L.map fun n => (f n, BitVec.ofNat 32 n)).foldl (reducer_argmin_f32_i32 (F := Ideal)) (v, BitVec.ofNat 32 j)
      = (v', BitVec.ofNat 32 j') ∧ Seen f (fun n => P n ∨ n ∈ L) v' j'
  | [], _, P, v, j, h => ⟨v, j, rfl, h.lt, h.one, fun n hn => h.all n (by simpa using hn)⟩
  | a :: L, hL, P, v, j, h => by
    have ha : a < 8193 := hL a (by simp)
    have hj := h.lt
    rw [List.map_cons, List.foldl_cons, reducer_apply _ _ _ _ (by omega) (by omega)]
    have h' : Seen f (fun n => P n ∨ n = a) (if v < f a then v else f a) (if v < f a ∨ (v = f a ∧ j < a) then j else a) := by
      rcases lt_trichotomy v (f a) with c | c | c
      · rw [if_pos c, if_pos (Or.inl c)]
        refine ⟨hj, h.one, ?_⟩
        rintro n (hn | rfl)
        · exact h.all n hn
        · exact Or.inl c
      · rw [if_neg (by rw [c]; exact lt_irrefl _)]
        by_cases e : j < a
        · rw [if_pos (Or.inr ⟨c, e⟩), ← c]
          refine ⟨hj, h.one, ?_⟩
          rintro n (hn | rfl)
          · exact h.all n hn
          · exact Or.inr ⟨c, by omega⟩
        · rw [if_neg (by rintro (x | x); exacts [absurd x (by rw [c]; exact lt_irrefl _), e x.2])]
          refine ⟨ha, Or.inr rfl, ?_⟩
          rintro n (hn | rfl)
          · rcases h.all n hn with q | q
            · exact Or.inl (c ▸ q)
            · exact Or.inr ⟨c ▸ q.1, by omega⟩
          · exact Or.inr ⟨rfl, le_rfl⟩
      · rw [if_neg (not_lt.mpr c.le), if_neg (by rintro (x | x); exacts [absurd x (not_lt.mpr c.le), c.ne' x.1])]
        refine ⟨ha, Or.inr rfl, ?_⟩
        rintro n (hn | rfl)
        · rcases h.all n hn with q | q
          · exact Or.inl (c.trans q)
          · exact Or.inl (q.1 ▸ c)
        · exact Or.inr ⟨rfl, le_rfl⟩
    obtain ⟨v', j', e, s⟩ := fold_seen f L (fun n hn => hL n (by simp [hn])) _ _ _ h'
    refine ⟨v', j', e, s.lt, s.one, fun n hn => s.all n ?_⟩
    rcases hn with hn | hn
    · exact Or.inl (Or.inl hn)
    · rcases List.mem_cons.mp hn with hn | hn
      · exact Or.inl (Or.inr hn)
      · exact Or.inr hn

/-- With every index seen, the fold's index is the first smallest. -/
theorem Seen.first {f : ℕ → EReal} {P : ℕ → Prop} {v : EReal} {j : ℕ} (h : Seen f P v j) (hP : ∀ n < 8193, P n) : first f = j := by
  refine IsFirst.eq ⟨h.lt, ?_, ?_⟩
  · intro i hi
    have a := h.all i (hP i hi)
    rcases h.one with ⟨o, o'⟩ | o
    · rcases a with a | a
      · rw [o] at a
        exact absurd a not_top_lt
      · rw [← a.1, o]
        exact le_top
    · rcases a with a | a
      · exact o ▸ a.le
      · exact (o ▸ a.1).le
  · intro i hi
    have a := h.all i (hP i (by have := h.lt; omega))
    rcases h.one with ⟨o, o'⟩ | o
    · omega
    · rcases a with a | a
      · exact o ▸ a
      · omega

/-- The index an axis-1 reduction of a `4 × 8193` array puts a place at: its row. -/
theorem drop_row (b : Fin 4) (n : Fin 8193) : reducesTo_S4x8193_S4_d1.drop (ix2 b n) = ix1 b := by
  funext a
  have : a = 0 := Subsingleton.elim _ _
  subst this
  rfl

/-- The reference's argmin of a row of values: the first index of its smallest. -/
theorem argmin_apply (x : FVec Ideal S4x8193 .f32) (y : IVec S4x8193 32) (ix : FVec Ideal S_ .f32) (iy : IVec S_ 32)
    (f : ℕ → EReal) (b : Fin 4) (hx : ∀ n : Fin 8193, x (ix2 b n) = f n.val) (hy : ∀ n : Fin 8193, y (ix2 b n) = BitVec.ofNat 32 n.val)
    (hix : ∀ i, ix i = (⊤ : EReal)) (hiy : ∀ i, iy i = 0#32) :
    (Host.argReduce reducer_argmin_f32_i32 x y ix iy reducesTo_S4x8193_S4_d1 h_S_ (ix1 b)).2 = BitVec.ofNat 32 (first f) := by
  rw [Ideal.argReduce_eq_reduce2, Host.reduce2_eq_foldl_fiber, hix, hiy, Host.argReduceFiber]
  set Q := (List.finRange S4x8193.numel).filter fun n => reducesTo_S4x8193_S4_d1.drop (S4x8193.rowMajor.symm n) = ix1 b with hQ
  have hmem : ∀ q ∈ Q, ∃ n : Fin 8193, S4x8193.rowMajor.symm q = ix2 b n := by
    intro q hq
    have h := (List.mem_filter.mp hq).2
    generalize S4x8193.rowMajor.symm q = i at h
    obtain ⟨b', n, rfl⟩ : ∃ (b' : Fin 4) (n : Fin 8193), i = ix2 b' n := ⟨i 0, i 1, (ix2_eta i).symm⟩
    rw [drop_row] at h
    have h0 : ix1 b' = ix1 b := by simpa using h
    have : b' = b := congrFun h0 0
    exact ⟨n, by rw [this]⟩
  have hmap : (Q.map fun n => (x (S4x8193.rowMajor.symm n), y (S4x8193.rowMajor.symm n)))
      = ((Q.map fun q => ((S4x8193.rowMajor.symm q) 1 : Fin 8193).val).map fun n => (f n, BitVec.ofNat 32 n)) := by
    rw [List.map_map]
    refine List.map_congr_left fun q hq => ?_
    obtain ⟨n, e⟩ := hmem q hq
    show (x (S4x8193.rowMajor.symm q), y (S4x8193.rowMajor.symm q)) = _
    rw [e, hx, hy]
    simp only [Function.comp, e]
    rfl
  rw [hmap]
  obtain ⟨v, j, e, s⟩ := fold_seen f (Q.map fun q => ((S4x8193.rowMajor.symm q) 1 : Fin 8193).val)
    (fun n hn => by obtain ⟨q, -, rfl⟩ := List.mem_map.mp hn; exact Fin.isLt _) (fun _ => False) ⊤ 0
    ⟨by omega, Or.inl ⟨rfl, rfl⟩, fun n hn => hn.elim⟩
  rw [show (0#32 : BitVec 32) = BitVec.ofNat 32 0 from rfl, e, s.first]
  intro n hn
  refine Or.inr (List.mem_map.mpr ⟨S4x8193.rowMajor (ix2 b ⟨n, hn⟩), ?_, ?_⟩)
  · rw [hQ, List.mem_filter]
    refine ⟨List.mem_finRange _, ?_⟩
    rw [Equiv.symm_apply_apply, drop_row]
    simp
  · rw [Equiv.symm_apply_apply]
    rfl

end Cert.ReferenceIdeal.Hand
-- ==== Proof.RI.Loop.lean ====
/- The reference's loop over time: what its carried buffers hold after `k` trips. -/
module

public import proofs.«01_k».proof.Proof.Gen.ReferenceIdeal.Run
public import proofs.«01_k».proof.Proof.KI.Argmin
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Cert.Path
open Cert.KernelIdeal.Hand (clip_ofNat toInt_ofNat slt_ofNat select_ofBool)

/-- The gather along a row, at row `b`: the row's value at the start index, clamped into `[0, 8192]`. -/
theorem gather_row_apply (x : FVec Ideal S4x8193 .f32) (i : IVec S4x1x1 32) (b : Fin 4) :
    Host.gather gather_S4x8193_S4x1x1_S4x1_n_1_0_0_1_2_11 x i (ix2 b 0)
      = x (ix2 b (⟨min (i (ix3 b 0 0)).toInt.toNat 8192, by omega⟩ : Fin 8193)) := by
  refine congrArg x ?_
  funext a
  refine Fin.ext ?_
  match a with
  | ⟨0, _⟩ =>
    show 0 + b.val + 0 = b.val
    omega
  | ⟨1, _⟩ =>
    refine Eq.trans (b := min (i _).toInt.toNat 8192 + 0 + 0) rfl (congrArg (fun q => min (i q).toInt.toNat 8192) ?_)
    funext b'
    refine Fin.ext ?_
    match b' with
    | ⟨0, _⟩ => rfl
    | ⟨1, _⟩ => rfl
    | ⟨2, _⟩ => rfl

/-- An index wrapped when negative, as a column of starts: a small one is itself. -/
theorem wrap_apply (i : IVec S4x1 32) (b : Fin 4) (n : ℕ) (hn : n < 2 ^ 31) (hi : i (ix2 b 0) = BitVec.ofNat 32 n) :
    shapeCast S4x1x1 (select (cmpi .slt i (broadcastInDim S4x1 ![] bcast_S_S4x1 (constantI S_ 32 0#32)))
      (addi i (broadcastInDim S4x1 ![] bcast_S_S4x1 (constantI S_ 32 8193#32))) i) shapeCasts_S4x1_S4x1x1 (ix3 b 0 0)
      = BitVec.ofNat 32 n := by
  pointwise
  rw [hi]
  have e := slt_ofNat n 0 hn (by omega)
  rw [show IntOp.cmpi CmpIPredicate.slt (BitVec.ofNat 32 n) (0#32) = _ from e, select_ofBool, if_neg (by simp)]

/-- The bounds check of a small start index holds. -/
theorem bounds_apply (i : IVec S4x1x1 32) (b : Fin 4) (n : ℕ) (hn : n ≤ 8192) (hi : i (ix3 b 0 0) = BitVec.ofNat 32 n) :
    Host.reduce IntOp.andi (andi (cmpi .sge i (broadcastInDim S4x1x1 ![] bcast_S_S4x1x1 (constantI S_ 32 0#32)))
      (cmpi .sle i (broadcastInDim S4x1x1 ![0, 1, 2] bcast_S1x1x1_S4x1x1_0_1_2
        (broadcastInDim S1x1x1 ![2] bcast_S1_S1x1x1_2 (constantI S1 32 8192#32)))))
      (constantI S_ 1 1#1) reducesTo_S4x1x1_S4x1_d2 h_S_ (ix2 b 0) = 1#1 := by
  have h1 := toInt_ofNat n (by omega)
  have e1 : IntOp.cmpi CmpIPredicate.sge (BitVec.ofNat 32 n) (0#32) = 1#1 := by
    show BitVec.ofBool ((0#32).sle (BitVec.ofNat 32 n)) = 1#1
    unfold BitVec.sle
    rw [h1]
    simp
  have e2 : IntOp.cmpi CmpIPredicate.sle (BitVec.ofNat 32 n) (8192#32) = 1#1 := by
    show BitVec.ofBool ((BitVec.ofNat 32 n).sle (8192#32)) = 1#1
    unfold BitVec.sle
    rw [h1, show ((8192#32 : BitVec 32)).toInt = 8192 from rfl, decide_eq_true (by omega)]
    rfl
  pointwise
  rw [Finset.univ_unique, Finset.fold_singleton]
  rw [show i (ix3 b 0 default) = BitVec.ofNat 32 n from hi, e1, e2]
  rfl

/-- A row's value taken at a small index. -/
theorem take_apply (x : FVec Ideal S4x8193 .f32) (b : Fin 4) (n : ℕ) (hn : n ≤ 8192) (w : IVec S4x1x1 32)
    (hw : w (ix3 b 0 0) = BitVec.ofNat 32 n) (f : ℕ → EReal) (hx : ∀ n : Fin 8193, x (ix2 b n) = f n.val) :
    select (Host.reduce IntOp.andi (andi (cmpi .sge w (broadcastInDim S4x1x1 ![] bcast_S_S4x1x1 (constantI S_ 32 0#32)))
      (cmpi .sle w (broadcastInDim S4x1x1 ![0, 1, 2] bcast_S1x1x1_S4x1x1_0_1_2
        (broadcastInDim S1x1x1 ![2] bcast_S1_S1x1x1_2 (constantI S1 32 8192#32)))))
      (constantI S_ 1 1#1) reducesTo_S4x1x1_S4x1_d2 h_S_)
      (Host.gather gather_S4x8193_S4x1x1_S4x1_n_1_0_0_1_2_11 x w)
      (broadcastInDim S4x1 ![] bcast_S_S4x1 (constant S_ .f32 0x7FC00000#32)) (ix2 b 0) = f n := by
  rw [show ∀ (c : IVec S4x1 1) (p q : FVec Ideal S4x1 .f32), select c p q (ix2 b 0) = Scalar.select (c (ix2 b 0)) (p (ix2 b 0)) (q (ix2 b 0))
    from fun _ _ _ => rfl, bounds_apply w b n hn hw, gather_row_apply, hx]
  show f (min (w (ix3 b 0 0)).toInt.toNat 8192) = f n
  rw [hw, toInt_ofNat n (by omega), Int.toNat_natCast, min_eq_left hn]

/-- A plane cut at a start time within range. -/
theorem plane_apply (D : FVec Ideal S255x4x8193 .f32) (g : Fin S255x4x8193.rank → Int) (k : ℕ) (hk : k < 255) (h0 : g 0 = k) (h1 : g 1 = 0)
    (h2 : g 2 = 0) (b : Fin 4) (n : Fin 8193) :
    shapeCast S4x8193 (Host.dynamicSlice S1x4x8193 D g sliceFits_S255x4x8193_S1x4x8193) shapeCasts_S1x4x8193_S4x8193 (ix2 b n)
      = D (ix3 (⟨k, hk⟩ : Fin 255) b n) := by
  have c0 := Host.clampedStart_of_le sliceFits_S255x4x8193_S1x4x8193.1 g 0 k h0 (by show k + 1 ≤ 255; omega)
  have c1 := Host.clampedStart_of_le sliceFits_S255x4x8193_S1x4x8193.1 g 1 0 h1 (by show 0 + 4 ≤ 4; omega)
  have c2 := Host.clampedStart_of_le sliceFits_S255x4x8193_S1x4x8193.1 g 2 0 h2 (by show 0 + 8193 ≤ 8193; omega)
  pointwise
  refine congrArg D ?_
  funext a
  refine Fin.ext ?_
  match a with
  | ⟨0, _⟩ => exact c0
  | ⟨1, _⟩ => exact (congrArg (· + b.val) c1).trans (Nat.zero_add _)
  | ⟨2, _⟩ => exact (congrArg (· + n.val) c2).trans (Nat.zero_add _)

/-- A row put at a time within range. -/
theorem put_apply (o : IVec S255x4 32) (u : IVec S1x4 32) (g : Fin S255x4.rank → Int) (k : ℕ) (hk : k < 255) (h0 : g 0 = k) (h1 : g 1 = 0)
    (t : Fin 255) (b : Fin 4) :
    Host.dynamicUpdateSlice o u g updateFits_S255x4_S1x4 (ix2 t b) = if t.val = k then u (ix2 0 b) else o (ix2 t b) := by
  have c0 := Host.clampedStart_of_le updateFits_S255x4_S1x4.1 g 0 k h0 (by show k + 1 ≤ 255; omega)
  have c1 := Host.clampedStart_of_le updateFits_S255x4_S1x4.1 g 1 0 h1 (by show 0 + 4 ≤ 4; omega)
  rw [Host.dynamicUpdateSlice_apply]
  by_cases e : t.val = k
  · rw [if_pos e, dif_pos]
    · refine congrArg u ?_
      funext a
      refine Fin.ext ?_
      match a with
      | ⟨0, _⟩ => exact (congrArg (t.val - ·) c0).trans (by show t.val - k = 0; omega)
      | ⟨1, _⟩ => exact (congrArg (b.val - ·) c1).trans (Nat.sub_zero _)
    · intro a
      match a with
      | ⟨0, _⟩ =>
        rw [show Host.clampedStart _ _ _ g ⟨0, _⟩ = k from c0]
        show k ≤ t.val ∧ t.val < k + 1
        omega
      | ⟨1, _⟩ =>
        rw [show Host.clampedStart _ _ _ g ⟨1, _⟩ = 0 from c1]
        show 0 ≤ b.val ∧ b.val < 0 + 4
        omega
  · rw [if_neg e, dif_neg]
    intro h
    have := h 0
    rw [c0] at this
    have h' : k ≤ t.val ∧ t.val < k + 1 := this
    omega

/-- A zero penalty with nothing added to it, or reset, is zero. -/
theorem pen_apply (e : IVec S4x1 1) (c : FVec Ideal S4x1 .f32) (b : Fin 4) (hp : c (ix2 b 0) = (0 : EReal)) :
    select e (addf c (broadcastInDim S4x1 ![] bcast_S_S4x1 (constant S_ .f32 0x00000000#32)))
      (broadcastInDim S4x1 ![] bcast_S_S4x1 (constant S_ .f32 0x00000000#32)) (ix2 b 0) = (0 : EReal) := by
  pointwise
  rw [hp]
  unfold Scalar.select
  split <;> rfl

/-- What the carried buffers hold before trip `k`, of distances `f b t n`. -/
structure Inv (f : Fin 4 → ℕ → ℕ → EReal) (k : ℕ) (V : Valuation τ sig (Elt Ideal)) : Prop where
  d : ∀ (t : Fin 255) (b : Fin 4) (n : Fin 8193), (V (Proc.devRef .tc main_v25_0) : FVec Ideal S255x4x8193 .f32) (ix3 t b n) = f b (t.val + 1) n.val
  ctr : (V (Proc.devRef .tc main_v25_1) : IVec S_ 32) = fun _ => BitVec.ofNat 32 k
  cur : ∀ b : Fin 4, (V (Proc.devRef .tc main_v25_2) : IVec S4x1 32) (ix2 b 0) = BitVec.ofNat 32 (code (f b) k)
  pen : ∀ b : Fin 4, (V (Proc.devRef .tc main_v25_3) : FVec Ideal S4x1 .f32) (ix2 b 0) = (0 : EReal)
  out : ∀ (t : Fin 255) (b : Fin 4), t.val < k → (V (Proc.devRef .tc main_v25_4) : IVec S255x4 32) (ix2 t b) = BitVec.ofNat 32 (code (f b) (t.val + 1))

section
variable {f : Fin 4 → ℕ → ℕ → EReal} {k : ℕ} {V : Valuation τ sig (Elt Ideal)}

/-- The row of distances trip `k` reads. -/
theorem Inv.v108 (h : Inv f k V) (hk : k < 255) (b : Fin 4) (n : Fin 8193) :
    (res_main_while0b_v108 V : FVec Ideal S4x8193 .f32) (ix2 b n) = f b (k + 1) n.val := by
  have hd := h.d
  have hc := h.ctr
  unfold res_main_while0b_v108
  generalize V (Proc.devRef .tc main_v25_0) = D at *
  generalize V (Proc.devRef .tc main_v25_1) = c at *
  subst hc
  rw [plane_apply _ _ k hk (toInt_ofNat k (by omega)) rfl rfl, hd]

/-- The next code, clipped. -/
theorem Inv.v112 (h : Inv f k V) (b : Fin 4) :
    (res_main_while0b_v112 V : IVec S4x1 32) (ix2 b 0) = BitVec.ofNat 32 (min (code (f b) k + 1) 8191) := by
  have hc := h.cur b
  unfold res_main_while0b_v112
  generalize V (Proc.devRef .tc main_v25_2) = c at *
  have := code_le (f b) k
  pointwise
  rw [hc, ← clip_ofNat _ (by omega)]
  rw [show IntOp.addi (BitVec.ofNat 32 (code (f b) k)) (1#32) = BitVec.ofNat 32 (code (f b) k + 1) from (BitVec.ofNat_add _ _).symm]
  rfl

/-- The comparison of staying against moving on. -/
theorem Inv.v115 (h : Inv f k V) (hk : k < 255) (b : Fin 4) :
    (res_main_while0b_v115 V : IVec S4x1 1) (ix2 b 0)
      = BitVec.ofBool (decide (f b (k + 1) (code (f b) k) ≤ f b (k + 1) (min (code (f b) k + 1) 8191))) := by
  have h8 := h.v108 hk b
  have h12 := h.v112 b
  have hcur := h.cur b
  have hpen := h.pen b
  have hle := code_le (f b) k
  have w3 : (res_main_while0b_call3_v5 V : IVec S4x1x1 32) (ix3 b 0 0) = _ := wrap_apply _ b _ (by omega) hcur
  have w5 : (res_main_while0b_call5_v5 V : IVec S4x1x1 32) (ix3 b 0 0) = _ := wrap_apply _ b _ (by omega) h12
  unfold res_main_while0b_v115
  rw [show ∀ (p q : FVec Ideal S4x1 .f32), cmpf .ole p q (ix2 b 0) = FloatOps.cmpf .ole (p (ix2 b 0)) (q (ix2 b 0)) from fun _ _ => rfl,
    show ∀ (p q : FVec Ideal S4x1 .f32), subf p q (ix2 b 0) = FloatOps.subf (p (ix2 b 0)) (q (ix2 b 0)) from fun _ _ => rfl,
    take_apply _ b _ (by omega) _ w3 _ h8,
    take_apply _ b _ (by omega) _ w5 _ h8, hpen, Ideal.subf_def, sub_zero, Ideal.cmpf_def]
  rfl

/-- The code after trip `k`. -/
theorem Inv.v116 (h : Inv f k V) (hk : k < 255) (b : Fin 4) :
    (res_main_while0b_v116 V : IVec S4x1 32) (ix2 b 0) = BitVec.ofNat 32 (code (f b) (k + 1)) := by
  unfold res_main_while0b_v116
  rw [show ∀ (c : IVec S4x1 1) (p q : IVec S4x1 32), select c p q (ix2 b 0) = Scalar.select (c (ix2 b 0)) (p (ix2 b 0)) (q (ix2 b 0))
    from fun _ _ _ => rfl, h.v115 hk b, h.cur b, h.v112 b, select_ofBool, code]
  simp only [decide_eq_true_eq]
  split_ifs <;> rfl

/-- The penalty stays zero. -/
theorem Inv.step3 (h : Inv f k V) (b : Fin 4) : (step_main_v25_3 V : FVec Ideal S4x1 .f32) (ix2 b 0) = (0 : EReal) :=
  pen_apply _ _ b (h.pen b)

/-- The rows written so far hold the path. -/
theorem Inv.step4 (h : Inv f k V) (hk : k < 255) (t : Fin 255) (b : Fin 4) (ht : t.val < k + 1) :
    (step_main_v25_4 V : IVec S255x4 32) (ix2 t b) = BitVec.ofNat 32 (code (f b) (t.val + 1)) := by
  have h16 := h.v116 hk b
  have ho := h.out t b
  have hc := h.ctr
  unfold step_main_v25_4
  generalize res_main_while0b_v116 V = u at *
  generalize V (Proc.devRef .tc main_v25_4) = o at *
  generalize V (Proc.devRef .tc main_v25_1) = c at *
  subst hc
  show Host.dynamicUpdateSlice o _ _ _ (ix2 t b) = _
  rw [put_apply _ _ _ k hk (toInt_ofNat k (by omega)) rfl]
  by_cases e : t.val = k
  · rw [if_pos e, e, ← h16]
    pointwise
  · rw [if_neg e]
    exact ho (by omega)

/-- One trip. -/
theorem Inv.step (h : Inv f k V) (hk : k < 255) : Inv f (k + 1) (STEP V) := by
  have e0 : STEP V (Proc.devRef .tc main_v25_0) = V (Proc.devRef .tc main_v25_0) := STEP_main_v25_0 V
  refine ⟨?_, ?_, ?_, ?_, ?_⟩
  · intro t b n
    rw [e0]
    exact h.d t b n
  · rw [STEP_main_v25_1]
    unfold step_main_v25_1
    rw [show V (Proc.devRef .tc main_v25_1) = _ from h.ctr]
    exact funext fun _ => (BitVec.ofNat_add k 1).symm
  · intro b
    rw [STEP_main_v25_2]
    exact h.v116 hk b
  · intro b
    rw [STEP_main_v25_3]
    exact h.step3 b
  · intro t b ht
    rw [STEP_main_v25_4]
    exact h.step4 hk t b ht

end

end Cert.ReferenceIdeal.Hand
-- ==== Proof.RI.Entry.lean ====
/- What the reference's loop starts from, and the codes the reference returns. -/
module

public import proofs.«01_k».proof.Proof.RI.First
public import proofs.«01_k».proof.Proof.RI.Loop
public import proofs.«01_k».proof.Proof.RI.Frame

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Cert.Path

open Cert.KernelIdeal.Hand (clip_ofNat)

variable (m : (ℓ : Loc nD τ sig) → Buf (Elt Ideal) ℓ) (c : Dev nD)

/-- The distances, of the arguments. -/
noncomputable def dist15 (a0 : FVec Ideal S4x256x32 .f32) (a1 : FVec Ideal S8193x32 .f32) : FVec Ideal S4x256x8193 .f32 :=
  shapeCast S4x256x8193
    (subf
      (addf
        (broadcastInDim S1024x8193 ![0, 1] bcast_S1024x1_S1024x8193_0_1
          (broadcastInDim S1024x1 ![0] bcast_S1024_S1024x1_0
            (Host.reduceAdd (mulf (shapeCast S1024x32 a0 shapeCasts_S4x256x32_S1024x32) (shapeCast S1024x32 a0 shapeCasts_S4x256x32_S1024x32))
              (constant S_ .f32 0#32) reducesTo_S1024x32_S1024_d1 h_S_)))
        (broadcastInDim S1024x8193 ![0, 1] bcast_S1x8193_S1024x8193_0_1
          (broadcastInDim S1x8193 ![1] bcast_S8193_S1x8193_1
            (Host.reduceAdd (mulf a1 a1) (constant S_ .f32 0#32) reducesTo_S8193x32_S8193_d1 h_S_))))
      (mulf (broadcastInDim S1024x8193 ![] bcast_S_S1024x8193 (constant S_ .f32 1073741824#32))
        (Host.dotGeneral dot_S1024x32_S32x8193_S1024x8193_1_0_0_1_n_n none (shapeCast S1024x32 a0 shapeCasts_S4x256x32_S1024x32)
          (transpose S32x8193 [1, 0] a1 transposes_S8193x32_S32x8193_1_0))))
    shapeCasts_S1024x8193_S4x256x8193

/-- The first codes, of the distances. -/
noncomputable def first20 (D : FVec Ideal S4x256x8193 .f32) : IVec S4x1 32 :=
  minsi (broadcastInDim S4x1 ![] bcast_S_S4x1 (constantI S_ 32 8191#32))
    (maxsi (broadcastInDim S4x1 ![] bcast_S_S4x1 (constantI S_ 32 0#32))
      (broadcastInDim S4x1 ![0] bcast_S4_S4x1_0 fun j =>
        (Host.argReduce reducer_argmin_f32_i32
          (shapeCast S4x8193 (extractStridedSlice S4x1x8193 ![0, 0, 0] D slices_S4x256x8193_S4x1x8193_0_0_0) shapeCasts_S4x1x8193_S4x8193)
          (iotaInDim S4x8193 32 1) (constant S_ .f32 2139095040#32) (constantI S_ 32 0#32) reducesTo_S4x8193_S4_d1 h_S_ j).2))

theorem entry_d : entryContents preI m c (Proc.devRef .tc main_v25_0)
    = transpose S255x4x8193 [1, 0, 2]
        (extractStridedSlice S4x255x8193 ![0, 1, 0]
          (dist15 (m ((c.tc : Thread nD τ).loc main_arg0)) (m ((c.tc : Thread nD τ).loc main_arg1))) slices_S4x256x8193_S4x255x8193_0_1_0)
        transposes_S4x255x8193_S255x4x8193_1_0_2 := by
  simp only [entryContents, afterL_cons, afterL_nil]
  after_reads_simp
  rfl
theorem entry_cur : entryContents preI m c (Proc.devRef .tc main_v25_2)
    = entryContents preI m c (Proc.devRef .tc main_v20) := by
  simp only [entryContents, afterL_cons, afterL_nil]
  after_reads_simp
  simp only [id]
theorem entry_v20 : entryContents preI m c (Proc.devRef .tc main_v20)
    = first20 (dist15 (m ((c.tc : Thread nD τ).loc main_arg0)) (m ((c.tc : Thread nD τ).loc main_arg1))) := by
  simp only [entryContents, afterL_cons, afterL_nil]
  after_reads_simp
  simp only [TRef.ofBuf_toBuf]
  unfold first20
  generalize hD : (fun i => shapeCast main_v15.ty.shape _ _ i) = D
  rw [show dist15 (m ((c.tc : Thread nD τ).loc main_arg0)) (m ((c.tc : Thread nD τ).loc main_arg1)) = D from hD]
  simp only [TRef.ofBuf, TRef.toBuf, cast_eq, id]
  rfl
theorem entry_pen : entryContents preI m c (Proc.devRef .tc main_v25_3) = broadcastInDim S4x1 ![] bcast_S_S4x1 (constant (F := Ideal) S_ .f32 0#32) := by
  simp only [entryContents, afterL_cons, afterL_nil]
  after_reads_simp
  rfl

theorem dist15_apply (a0 : FVec Ideal S4x256x32 .f32) (a1 : FVec Ideal S8193x32 .f32) (b : Fin 4) (t : Fin 256) (n : Fin 8193) :
    dist15 a0 a1 (ix3 b t n) = dists (fun t d => a0 (ix3 b t d)) (fun n d => a1 (ix2 n d)) t.val n.val := by
  unfold dist15 dists
  rw [dif_pos t.isLt]
  unfold Path.dist rows
  simp only [n.isLt, dif_pos]
  pointwise
  rfl

theorem first_lt (f : ℕ → EReal) : first f < 8193 := by
  unfold first
  rcases Set.eq_empty_or_nonempty {j | j < 8193 ∧ ∀ i < 8193, f j ≤ f i} with h | h
  · rw [h, Nat.sInf_empty]
    omega
  · exact (Nat.sInf_mem h).1

theorem first20_apply (D : FVec Ideal S4x256x8193 .f32) (f : ℕ → EReal) (b : Fin 4) (h : ∀ n : Fin 8193, D (ix3 b (0 : Fin 256) n) = f n.val) :
    first20 D (ix2 b 0) = BitVec.ofNat 32 (min (first f) 8191) := by
  unfold first20
  have e := argmin_apply (shapeCast S4x8193 (extractStridedSlice S4x1x8193 ![0, 0, 0] D slices_S4x256x8193_S4x1x8193_0_0_0) shapeCasts_S4x1x8193_S4x8193)
    (iotaInDim S4x8193 32 1) (constant S_ .f32 2139095040#32) (constantI S_ 32 0#32) f b
    (fun n => by pointwise; exact h n) (fun n => rfl) (fun i => by simp [constant, Ideal.ofBits, Ideal.ieee]) (fun i => rfl)
  set g : IVec S4 32 := (fun j : S4.Idx => (Host.argReduce reducer_argmin_f32_i32
          (shapeCast S4x8193 (extractStridedSlice S4x1x8193 ![0, 0, 0] D slices_S4x256x8193_S4x1x8193_0_0_0) shapeCasts_S4x1x8193_S4x8193)
          (iotaInDim S4x8193 32 1) (constant S_ .f32 2139095040#32) (constantI S_ 32 0#32) reducesTo_S4x8193_S4_d1 h_S_ j).2) with hg
  have e' : g (ix1 b) = BitVec.ofNat 32 (first f) := by
    rw [hg]
    exact e
  clear_value g
  have hlt := first_lt f
  pointwise
  rw [e', ← clip_ofNat _ (by omega)]

theorem upto_v20 (X : Valuation τ sig (Elt Ideal)) : upto hostOps0_5 X 1 (Proc.devRef .tc main_v20) = X (Proc.devRef .tc main_v20) := by
  show after [_] X _ = _
  after_reads_simp
theorem upto_v26 (X : Valuation τ sig (Elt Ideal)) : upto hostOps0_5 X 1 (Proc.devRef .tc main_v26)
    = transpose S4x255 [1, 0] (X (Proc.devRef .tc main_v25_4)) transposes_S255x4_S4x255_1_0 := by
  show after [_] X _ = _
  after_reads_simp

/-- The codes, of the contents after the loop. -/
noncomputable def codes (X : Valuation τ sig (Elt Ideal)) : IVec S4x256 32 :=
  concatenate S4x256 1 [⟨S4x1, X (Proc.devRef .tc main_v20)⟩,
    ⟨S4x255, transpose S4x255 [1, 0] (X (Proc.devRef .tc main_v25_4)) transposes_S255x4_S4x255_1_0⟩] concatenates_S4x1_S4x255_S4x256_d1

theorem post_codes (X : Valuation τ sig (Elt Ideal)) : afterL postI X (Proc.devRef .tc main_v27) = codes X := by
  simp only [afterL_cons, afterL_nil]
  after_reads_simp
  rw [upto_v20, upto_v26]
  rfl

/-- The straight-through vectors, of the vectors, the book and the codes. -/
noncomputable def zq (a0 : FVec Ideal S4x256x32 .f32) (a1 : FVec Ideal S8193x32 .f32) (k : IVec S4x256 32) : FVec Ideal S4x256x32 .f32 :=
  addf a0 (subf (shapeCast S4x256x32 (Host.gather gather_S8193x32_S1024x1_S1024x32_1_0_n_n_0_1_132 a1
    (broadcastInDim S1024x1 ![0] bcast_S1024_S1024x1_0
      (select (cmpi .slt (shapeCast S1024 k shapeCasts_S4x256_S1024) (broadcastInDim S1024 ![] bcast_S_S1024 (constantI S_ 32 0#32)))
        (addi (shapeCast S1024 k shapeCasts_S4x256_S1024) (broadcastInDim S1024 ![] bcast_S_S1024 (constantI S_ 32 8193#32)))
        (shapeCast S1024 k shapeCasts_S4x256_S1024)))) shapeCasts_S1024x32_S4x256x32) a0)

theorem post_zq (X : Valuation τ sig (Elt Ideal)) : afterL postI X (Proc.devRef .tc main_v104)
    = zq (X (Proc.devRef .tc main_arg0)) (X (Proc.devRef .tc main_arg1)) (codes X) := by
  simp only [afterL_cons, afterL_nil]
  after_reads_simp
  rw [upto_v20, upto_v26]
  rfl

/-- The spread of the codes. -/
noncomputable def spread (k : IVec S4x256 32) : IVec S_ 32 :=
  subi (Host.reduce IntOp.maxsi k (constantI S_ 32 2147483648#32) reducesTo_S4x256_S_d0_1 h_S_)
    (Host.reduce IntOp.minsi k (constantI S_ 32 2147483647#32) reducesTo_S4x256_S_d0_1 h_S_)

theorem post_v (X : Valuation τ sig (Elt Ideal)) : afterL postI X (Proc.devRef .tc main_v107) = spread (codes X) := by
  simp only [afterL_cons, afterL_nil]
  after_reads_simp
  rw [upto_v20, upto_v26]
  rfl

/-! ## The first codes and the paths are kept to the end -/

/-- The operation writes neither the first codes nor the paths. -/
theorem cond_keeps (X : Valuation τ sig (Elt Ideal)) :
    after condOps X (Proc.devRef .tc main_v20) = X (Proc.devRef .tc main_v20)
      ∧ after condOps X (Proc.devRef .tc main_v25_4) = X (Proc.devRef .tc main_v25_4)
      ∧ after condOps X (Proc.devRef .tc main_arg0) = X (Proc.devRef .tc main_arg0)
      ∧ after condOps X (Proc.devRef .tc main_arg1) = X (Proc.devRef .tc main_arg1) := by
  refine ⟨?_, ?_, ?_, ?_⟩ <;> after_reads_simp

theorem skips_body : (bodyI : List (List (HloOp τ sig (Elt Ideal)))).Forall
    fun ops => ops.Forall fun op => Proc.devRef .tc main_v20 ∉ op.writes := by
  simp only [List.Forall]
  repeat' apply And.intro
  all_goals (exact fun h => absurd (Finset.mem_singleton.mp h) (devRef_ne_of_ne (by decide)))

/-- Lines that do not write a buffer leave it. -/
theorem skips_afterL (r : DevRef τ sig) : ∀ (items : List (List (HloOp τ sig (Elt Ideal)))),
    items.Forall (fun ops => ops.Forall fun op => r ∉ op.writes) → ∀ V : Valuation τ sig (Elt Ideal), afterL items V r = V r
  | [], _, _ => rfl
  | ops :: rest, h, V => by
    have hl := List.forall_iff_forall_mem.mp h
    rw [afterL_cons, skips_afterL r rest (List.forall_iff_forall_mem.mpr fun o ho => hl o (List.mem_cons_of_mem _ ho)),
      after_of_forall_not_mem ops V fun op ho => List.forall_iff_forall_mem.mp (hl ops List.mem_cons_self) op ho]

theorem atK_v20 : ∀ k, atK m k c (Proc.devRef .tc main_v20) = entryContents preI m c (Proc.devRef .tc main_v20)
  | 0 => rfl
  | k + 1 => by
    rw [show atK m (k + 1) c = afterL bodyI (after condOps (atK m k c)) from rfl, skips_afterL _ _ skips_body, (cond_keeps _).1, atK_v20 k]

/-! ## The codes returned -/

/-- The vectors and the book, as functions. -/
noncomputable def vecs (b : Fin 4) : Fin 256 → Fin 32 → EReal := fun t d => (m ((c.tc : Thread nD τ).loc main_arg0) : FVec Ideal S4x256x32 .f32) (ix3 b t d)
noncomputable def book : Fin 8193 → Fin 32 → EReal := fun n d => (m ((c.tc : Thread nD τ).loc main_arg1) : FVec Ideal S8193x32 .f32) (ix2 n d)

/-- At the loop's entry the invariant holds. -/
theorem inv_entry : Inv (fun b => dists (vecs m c b) (book m c)) 0 (entryContents preI m c) := by
  refine ⟨?_, ?_, ?_, ?_, ?_⟩
  · intro t b n
    rw [entry_d]
    have e := dist15_apply (m ((c.tc : Thread nD τ).loc main_arg0)) (m ((c.tc : Thread nD τ).loc main_arg1)) b (⟨t.val + 1, by omega⟩ : Fin 256) n
    generalize dist15 _ _ = D at *
    refine Eq.trans ?_ e
    pointwise
    simp only [Nat.add_comm 1]
  · exact ctr_entry m c
  · intro b
    rw [entry_cur, entry_v20]
    refine first20_apply _ _ b fun n => ?_
    exact dist15_apply _ _ b 0 n
  · intro b
    rw [entry_pen]
    pointwise
  · intro t b h
    exact absurd h (Nat.not_lt_zero _)

theorem inv_atK : ∀ k, k ≤ 255 → Inv (fun b => dists (vecs m c b) (book m c)) k (STEP^[k] (entryContents preI m c))
  | 0, _ => inv_entry m c
  | k + 1, hk => by
    rw [Function.iterate_succ_apply']
    exact (inv_atK k (by omega)).step (by omega)

/-- The codes at the end: each row's path. -/
theorem codes_apply (b : Fin 4) (t : Fin 256) : codes (after condOps (atK m 255 c)) (ix2 b t) = BitVec.ofNat 32 (code (dists (vecs m c b) (book m c)) t.val) := by
  have h20 : after condOps (atK m 255 c) (Proc.devRef .tc main_v20) = _ := ((cond_keeps _).1.trans (atK_v20 m c 255)).trans (entry_v20 m c)
  have h4 : after condOps (atK m 255 c) (Proc.devRef .tc main_v25_4) = _ := (cond_keeps _).2.1.trans (atK_agree m c 255 main_v25_4 (by decide))
  have hi := (inv_atK m c 255 le_rfl).out
  unfold codes
  rw [h20, h4]
  generalize (STEP^[255] (entryContents preI m c)) (Proc.devRef .tc main_v25_4) = o at *
  have hf : first20 (dist15 (m ((c.tc : Thread nD τ).loc main_arg0)) (m ((c.tc : Thread nD τ).loc main_arg1))) (ix2 b 0) = _ :=
    first20_apply _ (dists (vecs m c b) (book m c) 0) b fun n => dist15_apply _ _ b 0 n
  generalize first20 _ = g at *
  pointwise
  by_cases h : t.val < 1
  · have e : t = 0 := Fin.ext (by show t.val = 0; omega)
    subst e
    exact hf
  · rw [dif_neg h, hi _ b (by show t.val - 1 < 255; omega), Nat.sub_add_cancel (by omega)]

end Cert.ReferenceIdeal.Hand
-- ==== Proof.RI.Result.lean ====
/- The reference's four results, of the vectors, the book and the path of codes. -/
module

public import proofs.«01_k».proof.Proof.RI.Entry
public import proofs.«01_k».proof.Proof.Loss

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Cert.Path

open Cert.KernelIdeal.Hand (toInt_ofNat slt_ofNat select_ofBool)

/-! ## Rows of the book, gathered -/

theorem gather_flat (x : FVec Ideal S8193x32 .f32) (i : IVec S1024x1 32) (q : Fin 1024) (d : Fin 32) :
    Host.gather gather_S8193x32_S1024x1_S1024x32_1_0_n_n_0_1_132 x i (ix2 q d)
      = x (ix2 (⟨min (i (ix2 q 0)).toInt.toNat 8192, by omega⟩ : Fin 8193) d) := by
  refine congrArg x ?_
  funext a
  refine Fin.ext ?_
  match a with
  | ⟨0, _⟩ =>
    refine Eq.trans (b := min (i _).toInt.toNat 8192 + 0 + 0) rfl (congrArg (fun q => min (i q).toInt.toNat 8192) ?_)
    funext b'
    refine Fin.ext ?_
    match b' with
    | ⟨0, _⟩ => rfl
    | ⟨1, _⟩ => rfl
  | ⟨1, _⟩ =>
    show 0 + 0 + d.val = d.val
    omega

theorem gather_grid (x : FVec Ideal S8193x32 .f32) (i : IVec S4x256x1 32) (b : Fin 4) (t : Fin 256) (d : Fin 32) :
    Host.gather gather_S8193x32_S4x256x1_S4x256x32_2_0_n_n_0_2_132 x i (ix3 b t d)
      = x (ix2 (⟨min (i (ix3 b t 0)).toInt.toNat 8192, by omega⟩ : Fin 8193) d) := by
  refine congrArg x ?_
  funext a
  refine Fin.ext ?_
  match a with
  | ⟨0, _⟩ =>
    refine Eq.trans (b := min (i _).toInt.toNat 8192 + 0 + 0) rfl (congrArg (fun q => min (i q).toInt.toNat 8192) ?_)
    funext b'
    refine Fin.ext ?_
    match b' with
    | ⟨0, _⟩ => rfl
    | ⟨1, _⟩ => rfl
    | ⟨2, _⟩ => rfl
  | ⟨1, _⟩ =>
    show 0 + 0 + d.val = d.val
    omega

/-- The wrapping of negative indices leaves a code as it is. -/
theorem wrap_word (n : ℕ) (hn : n ≤ 8191) :
    Scalar.select (IntOp.cmpi CmpIPredicate.slt (BitVec.ofNat 32 n) 0#32) (IntOp.addi (BitVec.ofNat 32 n) 8193#32) (BitVec.ofNat 32 n) = BitVec.ofNat 32 n := by
  have e := slt_ofNat n 0 (by omega) (by omega)
  rw [show IntOp.cmpi CmpIPredicate.slt (BitVec.ofNat 32 n) (0#32) = _ from e, select_ofBool, if_neg (by simp)]

theorem row_book (a1 : FVec Ideal S8193x32 .f32) (w : BitVec 32) (n : ℕ) (hn : n ≤ 8191) (hw : w = BitVec.ofNat 32 n) (d : Fin 32) (h) :
    a1 (ix2 (⟨min w.toInt.toNat 8192, h⟩ : Fin 8193) d) = rows (fun n d => a1 (ix2 n d)) n d := by
  subst hw
  unfold rows
  rw [dif_pos (by omega : n < 8193)]
  refine congrArg a1 ?_
  congr 1
  refine Fin.ext ?_
  show min _ 8192 = n
  rw [toInt_ofNat n (by omega), Int.toNat_natCast, min_eq_left (by omega)]

theorem zq_apply (a0 : FVec Ideal S4x256x32 .f32) (a1 : FVec Ideal S8193x32 .f32) (k : IVec S4x256 32) (b : Fin 4) (t : Fin 256) (d : Fin 32)
    (n : ℕ) (hn : n ≤ 8191) (hk : k (ix2 b t) = BitVec.ofNat 32 n) :
    zq a0 a1 k (ix3 b t d) = a0 (ix3 b t d) + (rows (fun n d => a1 (ix2 n d)) n d - a0 (ix3 b t d)) := by
  unfold zq
  generalize hi : (broadcastInDim (s := S1024) S1024x1 ![0] bcast_S1024_S1024x1_0 _ : IVec S1024x1 32) = i
  have e : i (ix2 (⟨b.val * 256 + t.val, by omega⟩ : Fin 1024) (0 : Fin 1)) = BitVec.ofNat 32 n := by
    rw [← hi]
    have hk' : shapeCast S1024 k shapeCasts_S4x256_S1024 (ix1 (⟨b.val * 256 + t.val, by omega⟩ : Fin 1024)) = BitVec.ofNat 32 n := by
      rw [← hk]
      pointwise
    generalize shapeCast S1024 k shapeCasts_S4x256_S1024 = K at *
    pointwise
    rw [hk']
    exact wrap_word n hn
  have eg := (gather_flat a1 i (⟨b.val * 256 + t.val, by omega⟩ : Fin 1024) d).trans (row_book a1 _ n hn e d _)
  generalize Host.gather gather_S8193x32_S1024x1_S1024x32_1_0_n_n_0_1_132 a1 i = g at *
  pointwise
  rw [eg]

/-! ## The spread -/

theorem spread_apply (k : IVec S4x256 32) : spread k = fun _ => Scalar.subi
    (Finset.univ.fold IntOp.maxsi 2147483648#32 k) (Finset.univ.fold IntOp.minsi 2147483647#32 k) := by
  haveI : Subsingleton S_.Idx := ⟨fun a b => funext fun i => i.elim0⟩
  funext j
  have e : (Finset.univ.filter fun i => (reducesTo_S4x256_S_d0_1).drop i = j) = Finset.univ := Finset.filter_true_of_mem fun i _ => Subsingleton.elim _ _
  unfold spread
  refine congrArg₂ Scalar.subi ?_ ?_
  · rw [Host.reduce_eq_fold, e]; rfl
  · rw [Host.reduce_eq_fold, e]; rfl

/-! ## The loss -/

/-- The mean of the clipped contrasts, of the vectors, the book and the codes. -/
noncomputable def contrast (a0 : FVec Ideal S4x256x32 .f32) (a1 : FVec Ideal S8193x32 .f32) (k : IVec S4x256 32) : FVec Ideal S_ .f32 :=
  Host.divf (Host.reduceAdd
    (maximumf
      (addf
        (subf
          (broadcastInDim S4x256x8193 ![0, 1, 2] bcast_S4x256x1_S4x256x8193_0_1_2 (broadcastInDim S4x256x1 ![0, 1] bcast_S4x256_S4x256x1_0_1
            (Host.reduceAdd
              (mulf
                (subf a0 (Host.gather gather_S8193x32_S4x256x1_S4x256x32_2_0_n_n_0_2_132 a1 (broadcastInDim S4x256x1 ![0, 1] bcast_S4x256_S4x256x1_0_1
                  (select (cmpi .slt k (broadcastInDim S4x256 ![] bcast_S_S4x256 (constantI S_ 32 0#32)))
                    (addi k (broadcastInDim S4x256 ![] bcast_S_S4x256 (constantI S_ 32 8193#32))) k))))
                (subf a0 (Host.gather gather_S8193x32_S4x256x1_S4x256x32_2_0_n_n_0_2_132 a1 (broadcastInDim S4x256x1 ![0, 1] bcast_S4x256_S4x256x1_0_1
                  (select (cmpi .slt k (broadcastInDim S4x256 ![] bcast_S_S4x256 (constantI S_ 32 0#32)))
                    (addi k (broadcastInDim S4x256 ![] bcast_S_S4x256 (constantI S_ 32 8193#32))) k)))))
              (constant S_ .f32 0x00000000#32) reducesTo_S4x256x32_S4x256_d2 h_S_)))
          (subf
            (addf
              (broadcastInDim S4x256x8193 ![0, 1, 2] bcast_S4x256x1_S4x256x8193_0_1_2 (broadcastInDim S4x256x1 ![0, 1] bcast_S4x256_S4x256x1_0_1
                (Host.reduceAdd (mulf a0 a0) (constant S_ .f32 0x00000000#32) reducesTo_S4x256x32_S4x256_d2 h_S_)))
              (broadcastInDim S4x256x8193 ![0, 1, 2] bcast_S1x1x8193_S4x256x8193_0_1_2 (broadcastInDim S1x1x8193 ![2] bcast_S8193_S1x1x8193_2
                (Host.reduceAdd (mulf a1 a1) (constant S_ .f32 0x00000000#32) reducesTo_S8193x32_S8193_d1 h_S_))))
            (mulf (broadcastInDim S4x256x8193 ![] bcast_S_S4x256x8193 (constant S_ .f32 0x40000000#32))
              (Host.dotGeneral dot_S4x256x32_S8193x32_S4x256x8193_2_1_01_0_n_n none a0 a1))))
        (broadcastInDim S4x256x8193 ![] bcast_S_S4x256x8193 (constant S_ .f32 0x2F0637BD#32)))
      (broadcastInDim S4x256x8193 ![] bcast_S_S4x256x8193 (constant S_ .f32 0x00000000#32)))
    (constant S_ .f32 0x00000000#32) reducesTo_S4x256x8193_S_d0_1_2 h_S_)
    (constant S_ .f32 0x4B000400#32)

/-- The loss: a quarter of the mean, and the mean. -/
noncomputable def lossOf (a0 : FVec Ideal S4x256x32 .f32) (a1 : FVec Ideal S8193x32 .f32) (k : IVec S4x256 32) : FVec Ideal S_ .f32 :=
  addf (mulf (constant S_ .f32 0x3E800000#32) (contrast a0 a1 k)) (contrast a0 a1 k)

theorem post_loss (X : Valuation τ sig (Elt Ideal)) : afterL postI X (Proc.devRef .tc main_v102)
    = lossOf (X (Proc.devRef .tc main_arg0)) (X (Proc.devRef .tc main_arg1)) (codes X) := by
  simp only [afterL_cons, afterL_nil]
  after_reads_simp
  rw [upto_v20, upto_v26]
  rfl

theorem contrast_apply (a0 : FVec Ideal S4x256x32 .f32) (a1 : FVec Ideal S8193x32 .f32) (k : IVec S4x256 32)
    (hk : ∀ (b : Fin 4) (t : Fin 256), k (ix2 b t) = BitVec.ofNat 32 (code (dists (fun t d => a0 (ix3 b t d)) (fun n d => a1 (ix2 n d))) t.val)) (j : S_.Idx) :
    contrast a0 a1 k j = meanGap (fun b t d => a0 (ix3 b t d)) (fun n d => a1 (ix2 n d)) := by
  unfold contrast
  generalize hi : (broadcastInDim (s := S4x256) S4x256x1 ![0, 1] bcast_S4x256_S4x256x1_0_1 _ : IVec S4x256x1 32) = i
  have e : ∀ (b : Fin 4) (t : Fin 256), i (ix3 b t (0 : Fin 1)) = BitVec.ofNat 32 (code (dists (fun t d => a0 (ix3 b t d)) (fun n d => a1 (ix2 n d))) t.val) := fun b t => by
    rw [← hi]
    have hk' := hk b t
    pointwise
    rw [hk']
    exact wrap_word _ (code_le _ _)
  have eg : ∀ (b : Fin 4) (t : Fin 256) (d : Fin 32), Host.gather gather_S8193x32_S4x256x1_S4x256x32_2_0_n_n_0_2_132 a1 i (ix3 b t d) = _ :=
    fun b t d => (gather_grid a1 i b t d).trans (row_book a1 _ _ (code_le _ _) (e b t) d _)
  generalize Host.gather gather_S8193x32_S4x256x1_S4x256x32_2_0_n_n_0_2_132 a1 i = g at *
  have ej : j = ix0 := Subsingleton.elim (h := ⟨fun a b => funext fun i => i.elim0⟩) _ _
  subst ej
  pointwise
  simp only [eg]
  rfl

/-! ## The results -/

variable (m : (ℓ : Loc nD τ sig) → Buf (Elt Ideal) ℓ) (ρ : Dev nD → PrngReg)

/-- The codes at the end of the run. -/
noncomputable def endCodes (c : Dev nD) : IVec S4x256 32 := codes (after condOps (atK m 255 c))

theorem keeps_test (c : Dev nD) : after condOps (atK m 255 c) (Proc.devRef .tc main_arg0) = m ((c.tc : Thread nD τ).loc main_arg0)
      ∧ after condOps (atK m 255 c) (Proc.devRef .tc main_arg1) = m ((c.tc : Thread nD τ).loc main_arg1) :=
  ⟨((keeps_cond).after (atK m 255 c)).1.trans (keeps_atK m c 255).1, ((keeps_cond).after (atK m 255 c)).2.trans (keeps_atK m c 255).2⟩

theorem ends : θ_run (defs (F := Ideal)) (onTc (τ := τ) (main (F := Ideal))) ⟨m, fun _ => 0, ρ⟩ (fun r => ∀ c : Dev nD,
      r.2.mem ((c.tc : Thread nD τ).loc main_v104) = zq (m ((c.tc : Thread nD τ).loc main_arg0)) (m ((c.tc : Thread nD τ).loc main_arg1)) (endCodes m c)
      ∧ r.2.mem ((c.tc : Thread nD τ).loc main_v102) = lossOf (m ((c.tc : Thread nD τ).loc main_arg0)) (m ((c.tc : Thread nD τ).loc main_arg1)) (endCodes m c)
      ∧ r.2.mem ((c.tc : Thread nD τ).loc main_v27) = endCodes m c
      ∧ r.2.mem ((c.tc : Thread nD τ).loc main_v107) = spread (endCodes m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c main_v104 rfl).trans ?_, (h c main_v102 rfl).trans ?_, (h c main_v27 rfl).trans ?_, (h c main_v107 rfl).trans ?_,
    (h c main_arg0 rfl).trans (keeps_final m c).1, (h c main_arg1 rfl).trans (keeps_final m c).2⟩) (run_fold m ρ)
  · rw [← (keeps_test m c).1, ← (keeps_test m c).2]
    exact post_zq _
  · rw [← (keeps_test m c).1, ← (keeps_test m c).2]
    exact post_loss _
  · exact post_codes _
  · exact post_v _

end Cert.ReferenceIdeal.Hand

end
-- ==== Proof.Algebraic.lean ====
/- The two programs' results agree, for arguments whose every entry is a real number. -/
module

public import proofs.«01_k».proof.Proof.KI.Loss
public import proofs.«01_k».proof.Proof.RI.Result

@[expose] public section

set_option maxRecDepth 16384

noncomputable section

namespace Cert.Agree

open Idealize.ShloMosaic Cert.Path
open Cert.KernelIdeal (S4x256x32 S1024x32 S8193x32 S_ S1x1 S4x256)
open Cert.KernelIdeal.Hand (X0 X1 X2 out3 out4 out5 out6 X0_apply X1_apply X2_apply)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's path of codes. -/
theorem out4_apply (b : Fin 4) (t : Fin 256) : out4 c (X0 m c) (X1 m c) (X2 m c) (ix2 b t)
    = BitVec.ofNat 32 (code (dists (Cert.KernelIdeal.Hand.vecs m c b) (Cert.KernelIdeal.Hand.book m c)) t.val) := by
  rw [Cert.KernelIdeal.Hand.out4_eq]
  exact Cert.KernelIdeal.Hand.v1432_value _ _ _ _ _ _ (X0_apply m c) (X1_apply m c) (Cert.KernelIdeal.Hand.wordBuf_value _ _ _ _ (X0_apply m c) (X2_apply m c)) b t

/-- The vectors side by side are the vectors of the sequences. -/
theorem lift_apply (v : FVec Ideal S1024x32 .f32) (h : S1024x32.ShapeCasts S4x256x32) (b : Fin 4) (t : Fin 256) (d : Fin 32) :
    (shapeCast S4x256x32 v h : FVec Ideal S4x256x32 .f32) (ix3 b t d) = v (ix2 (⟨b.val * 256 + t.val, Cert.KernelIdeal.Hand.row_lt b t⟩ : Fin 1024) d) := by
  pointwise

/-- The kernel's quantised vectors. -/
theorem out3_apply (h : S1024x32.ShapeCasts S4x256x32) (b : Fin 4) (t : Fin 256) (d : Fin 32) :
    (shapeCast S4x256x32 (out3 c (X0 m c) (X1 m c) (X2 m c)) h : FVec Ideal S4x256x32 .f32) (ix3 b t d)
      = Cert.KernelIdeal.Hand.vecs m c b t d
        + (rows (Cert.KernelIdeal.Hand.book m c) (code (dists (Cert.KernelIdeal.Hand.vecs m c b) (Cert.KernelIdeal.Hand.book m c)) t.val) d
          - Cert.KernelIdeal.Hand.vecs m c b t d) := by
  rw [lift_apply, Cert.KernelIdeal.Hand.out3_eq, Cert.KernelIdeal.Hand.r_eq]
  have hp := Cert.KernelIdeal.Hand.picked_value _ _ _ (Cert.KernelIdeal.Hand.wordBuf_le (X0 m c) (X2 m c)) _ _ (X0_apply m c) (X1_apply m c)
    (Cert.KernelIdeal.Hand.wordBuf_value _ _ _ _ (X0_apply m c) (X2_apply m c)) b t d
  rw [← hp, ← X0_apply m c b t d]
  rfl

/-- The kernel's mean, for real entries. -/
theorem mean_value (fZ : ∀ b t d, ∃ r : ℝ, Cert.KernelIdeal.Hand.vecs m c b t d = r) (fE : ∀ n d, ∃ r : ℝ, Cert.KernelIdeal.Hand.book m c n d = r) :
    Cert.KernelIdeal.Hand.kernelRun.sl.r_22 (X0 m c) (X1 m c) (X2 m c) (Cert.KernelIdeal.Hand.wordBuf (X0 m c) (X2 m c)) (Cert.KernelIdeal.Hand.wordBuf_le (X0 m c) (X2 m c))
      = meanGap (Cert.KernelIdeal.Hand.vecs m c) (Cert.KernelIdeal.Hand.book m c) :=
  Cert.KernelIdeal.Hand.r_22_value _ _ _ _ _ _ _ (X0_apply m c) (X1_apply m c) (X2_apply m c)
    (Cert.KernelIdeal.Hand.wordBuf_value _ _ _ _ (X0_apply m c) (X2_apply m c)) fZ fE

section Same

variable (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))

include h0 in
theorem vecs_eq : Cert.ReferenceIdeal.Hand.vecs m' c = Cert.KernelIdeal.Hand.vecs m c := by
  funext b t d
  exact congrArg (fun v : FVec Ideal S4x256x32 .f32 => v (ix3 b t d)) h0

include h1 in
theorem book_eq : Cert.ReferenceIdeal.Hand.book m' c = Cert.KernelIdeal.Hand.book m c := by
  funext n d
  exact congrArg (fun v : FVec Ideal S8193x32 .f32 => v (ix2 n d)) h1

include h0 h1 in
theorem endCodes_apply (b : Fin 4) (t : Fin 256) : Cert.ReferenceIdeal.Hand.endCodes m' c (ix2 b t)
    = BitVec.ofNat 32 (code (dists (Cert.KernelIdeal.Hand.vecs m c b) (Cert.KernelIdeal.Hand.book m c)) t.val) := by
  rw [← vecs_eq m m' c h0, ← book_eq m m' c h1]
  exact Cert.ReferenceIdeal.Hand.codes_apply m' c b t

include h0 h1 in
/-- The codes agree. -/
theorem codes_eq : Cert.ReferenceIdeal.Hand.endCodes m' c = out4 c (X0 m c) (X1 m c) (X2 m c) := by
  funext j
  obtain ⟨b, t, rfl⟩ : ∃ (b : Fin 4) (t : Fin 256), j = ix2 b t := ⟨j 0, j 1, by funext a; fin_cases a <;> rfl⟩
  exact (endCodes_apply m m' c h0 h1 b t).trans (out4_apply m c b t).symm

include h0 h1 in
/-- The spreads agree. -/
theorem spread_eq (h : S1x1.ShapeCasts S_) : Cert.ReferenceIdeal.Hand.spread (Cert.ReferenceIdeal.Hand.endCodes m' c)
    = (shapeCast S_ (out6 c (X0 m c) (X1 m c) (X2 m c)) h : IVec S_ 32) := by
  rw [codes_eq m m' c h0 h1, Cert.ReferenceIdeal.Hand.spread_apply, Cert.KernelIdeal.Hand.out6_spread]
  rfl

include h0 h1 in
/-- The quantised vectors agree. -/
theorem zq_eq (h : S1024x32.ShapeCasts S4x256x32) : Cert.ReferenceIdeal.Hand.zq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (Cert.ReferenceIdeal.Hand.endCodes m' c)
    = (shapeCast S4x256x32 (out3 c (X0 m c) (X1 m c) (X2 m c)) h : FVec Ideal S4x256x32 .f32) := by
  funext j
  obtain ⟨b, t, d, rfl⟩ : ∃ (b : Fin 4) (t : Fin 256) (d : Fin 32), j = ix3 b t d := ⟨j 0, j 1, j 2, by funext a; fin_cases a <;> rfl⟩
  refine (Cert.ReferenceIdeal.Hand.zq_apply _ _ _ b t d _ (code_le _ _) (endCodes_apply m m' c h0 h1 b t)).trans (Eq.trans ?_ (out3_apply m c h b t d).symm)
  rw [← vecs_eq m m' c h0, ← book_eq m m' c h1]
  rfl

include h0 h1 in
/-- The losses agree, for real entries. -/
theorem loss_eq (fZ : ∀ b t d, ∃ r : ℝ, Cert.KernelIdeal.Hand.vecs m c b t d = r) (fE : ∀ n d, ∃ r : ℝ, Cert.KernelIdeal.Hand.book m c n d = r)
    (h : S1x1.ShapeCasts S_) : Cert.ReferenceIdeal.Hand.lossOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (Cert.ReferenceIdeal.Hand.endCodes m' c)
    = (shapeCast S_ (out5 c (X0 m c) (X1 m c) (X2 m c)) h : FVec Ideal S_ .f32) := by
  have hc := Cert.ReferenceIdeal.Hand.contrast_apply _ _ _ (Cert.ReferenceIdeal.Hand.codes_apply m' c)
  have hm : meanGap (Cert.ReferenceIdeal.Hand.vecs m' c) (Cert.ReferenceIdeal.Hand.book m' c) = _ :=
    (congrArg₂ meanGap (vecs_eq m m' c h0) (book_eq m m' c h1)).trans (mean_value m c fZ fE).symm
  rw [Cert.KernelIdeal.Hand.out5_eq]
  funext j
  have hj := (hc j).trans hm
  exact congrArg (fun x : EReal => Ideal.ofBits FTy.f32 0x3E800000#32 * x + x) hj

end Same

end Cert.Agree

end
-- ==== Proof.lean ====
/- The claims assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Frame
public import proofs.«01_k».proof.Proof.KI.Frame
public import proofs.«01_k».proof.Proof.RI.Frame
public import proofs.«01_k».proof.Proof.Finite
public import proofs.«01_k».proof.Proof.Algebraic

@[expose] public section

noncomputable section

namespace Cert.Proof

open Idealize.ShloMosaic Idealize.SL.Sem

/-- The precondition read entry by entry. -/
theorem entries_real [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ b t d, ∃ r : ℝ, Cert.KernelIdeal.Hand.vecs m c b t d = r) ∧ ∀ n d, ∃ r : ℝ, Cert.KernelIdeal.Hand.book m c n d = r := by
  obtain ⟨h0, h1⟩ := Cert.Finite.real_of_pre _ _ (h c)
  exact ⟨fun b t d => h0 (ix3 b t d), fun n d => h1 (ix2 n d)⟩

/-- The frames, the named constant, and the agreement of all four results. -/
theorem claim : Cert.Claim := ⟨Cert.Kernel.Gen.facts, Cert.KernelIdeal.Gen.facts, Cert.ReferenceIdeal.Gen.facts, Cert.Finite.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  IdealRules.named_const.statement Cert.KernelIdeal.κ "mask" .f32 0x7149F2CA#32 ⊤ rfl,
  fun m ρ m' ρ' hp hm => ⟨_, _, _, _, Cert.KernelIdeal.Hand.ends m ρ,
    (θ_run Cert.ReferenceIdeal.defs _ _).mono (fun r h c =>
      have e := @entries_real Cert.Finite.facts m hp c
      ⟨(h c).1.trans (Cert.Agree.zq_eq m m' c (hm c).1 (hm c).2 _), (h c).2.1.trans (Cert.Agree.loss_eq m m' c (hm c).1 (hm c).2 e.1 e.2 _),
        (h c).2.2.1.trans (Cert.Agree.codes_eq m m' c (hm c).1 (hm c).2), (h c).2.2.2.1.trans (Cert.Agree.spread_eq m m' c (hm c).1 (hm c).2 _),
        (h c).2.2.2.2⟩) (Cert.ReferenceIdeal.Hand.ends m' ρ')⟩⟩

end Cert.Proof

end
